-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x3584 : Shape := ⟨3, ![1, 256, 3584]⟩
abbrev S1x256x112 : Shape := ⟨3, ![1, 256, 112]⟩
abbrev S18944x3584 : Shape := ⟨2, ![18944, 3584]⟩
abbrev S18944x112 : Shape := ⟨2, ![18944, 112]⟩
abbrev S256x3584 : Shape := ⟨2, ![256, 3584]⟩
abbrev S256x112 : Shape := ⟨2, ![256, 112]⟩
abbrev S256x18944 : Shape := ⟨2, ![256, 18944]⟩
abbrev S256x592 : Shape := ⟨2, ![256, 592]⟩
abbrev S512x3584 : Shape := ⟨2, ![512, 3584]⟩
abbrev S512x112 : Shape := ⟨2, ![512, 112]⟩
abbrev S256x512 : Shape := ⟨2, ![256, 512]⟩
abbrev S128x128 : Shape := ⟨2, ![128, 128]⟩
abbrev S256x128 : Shape := ⟨2, ![256, 128]⟩
abbrev S640x256 : Shape := ⟨2, ![640, 256]⟩
abbrev S128x112 : Shape := ⟨2, ![128, 112]⟩
abbrev S128x128x1 : Shape := ⟨3, ![128, 128, 1]⟩
abbrev S256x128x1 : Shape := ⟨3, ![256, 128, 1]⟩
abbrev S512x128 : Shape := ⟨2, ![512, 128]⟩
abbrev S512x256 : Shape := ⟨2, ![512, 256]⟩
abbrev S16x32x256 : Shape := ⟨3, ![16, 32, 256]⟩
abbrev S16x256 : Shape := ⟨2, ![16, 256]⟩
abbrev S16x1x256 : Shape := ⟨3, ![16, 1, 256]⟩
abbrev S256x640 : Shape := ⟨2, ![256, 640]⟩

abbrev nBuf : Space → Nat
  | .hbm => 10
  | .vmem => 18
  | .smem => 0
  | _ => 0

abbrev bufTy : (tb : Table) → Fin (tcTables nBuf tb) → BufTy
  | .hbm, ⟨0, _⟩ => ⟨S1x256x3584, .fp8e4m3⟩
  | .hbm, ⟨1, _⟩ => ⟨S1x256x112, .i8⟩
  | .hbm, ⟨2, _⟩ => ⟨S18944x3584, .fp8e4m3⟩
  | .hbm, ⟨3, _⟩ => ⟨S18944x112, .i8⟩
  | .hbm, ⟨4, _⟩ => ⟨S18944x3584, .fp8e4m3⟩
  | .hbm, ⟨5, _⟩ => ⟨S18944x112, .i8⟩
  | .hbm, ⟨6, _⟩ => ⟨S256x3584, .fp8e4m3⟩
  | .hbm, ⟨7, _⟩ => ⟨S256x112, .i8⟩
  | .hbm, ⟨8, _⟩ => ⟨S256x18944, .fp8e4m3⟩
  | .hbm, ⟨9, _⟩ => ⟨S256x592, .i8⟩
  | .local _ .vmem, ⟨0, _⟩ => ⟨S256x3584, .fp8e4m3⟩
  | .local _ .vmem, ⟨1, _⟩ => ⟨S256x112, .i8⟩
  | .local _ .vmem, ⟨2, _⟩ => ⟨S512x3584, .fp8e4m3⟩
  | .local _ .vmem, ⟨3, _⟩ => ⟨S512x3584, .fp8e4m3⟩
  | .local _ .vmem, ⟨4, _⟩ => ⟨S512x112, .i8⟩
  | .local _ .vmem, ⟨5, _⟩ => ⟨S512x112, .i8⟩
  | .local _ .vmem, ⟨6, _⟩ => ⟨S512x3584, .fp8e4m3⟩
  | .local _ .vmem, ⟨7, _⟩ => ⟨S512x3584, .fp8e4m3⟩
  | .local _ .vmem, ⟨8, _⟩ => ⟨S512x112, .i8⟩
  | .local _ .vmem, ⟨9, _⟩ => ⟨S512x112, .i8⟩
  | .local _ .vmem, ⟨10, _⟩ => ⟨S256x512, .fp8e4m3⟩
  | .local _ .vmem, ⟨11, _⟩ => ⟨S256x512, .fp8e4m3⟩
  | .local _ .vmem, ⟨12, _⟩ => ⟨S256x592, .i8⟩
  | .local _ .vmem, ⟨13, _⟩ => ⟨S256x3584, .bf16⟩
  | .local _ .vmem, ⟨14, _⟩ => ⟨S128x128, .i32⟩
  | .local _ .vmem, ⟨15, _⟩ => ⟨S256x128, .i32⟩
  | .local _ .vmem, ⟨16, _⟩ => ⟨S512x3584, .bf16⟩
  | .local _ .vmem, ⟨17, _⟩ => ⟨S640x256, .i32⟩
  | _, _ => ⟨S1x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![37], ![false]⟩

def k0_mult1 (i : grid0.Coords) : BitVec 32 :=
  let arg0 : BitVec 32 := BitVec.ofNat 32 (i 0).val
  let c16_i32_553 : BitVec 32 := 16#32
  let v1255 : BitVec 32 := Scalar.muli arg0 c16_i32_553
  v1255
def k0_off1 (i : grid0.Coords) : Fin 2 → Nat :=
  let arg0 : BitVec 32 := BitVec.ofNat 32 (i 0).val
  let c16_i32_553 : BitVec 32 := 16#32
  let v1255 : BitVec 32 := Scalar.muli arg0 c16_i32_553
  let v1256 : BitVec 32 := v1255
  let v1257 : Index := Scalar.indexCast v1256
  let c0_554 : Index := 0#32
  ![v1257.toNat, 0]
def k0_cond2 (i : grid0.Coords) : BitVec 1 :=
  let arg0 : BitVec 32 := BitVec.ofNat 32 (i 0).val
  let c36_i32_555 : BitVec 32 := 36#32
  let v1261 : BitVec 1 := Scalar.cmpi .eq arg0 c36_i32_555
  let v1262 : BitVec 32 := Scalar.extui v1261
  let c0_i32_556 : BitVec 32 := 0#32
  let v1263 : BitVec 1 := Scalar.cmpi .ne v1262 c0_i32_556
  v1263

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x112 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x112 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x112 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x592 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x256x3584 : Shape := ⟨3, ![1, 256, 3584]⟩
abbrev S1x256x112 : Shape := ⟨3, ![1, 256, 112]⟩
abbrev S18944x3584 : Shape := ⟨2, ![18944, 3584]⟩
abbrev S18944x112 : Shape := ⟨2, ![18944, 112]⟩
abbrev S256x3584 : Shape := ⟨2, ![256, 3584]⟩
abbrev S256x112 : Shape := ⟨2, ![256, 112]⟩
abbrev S256x18944 : Shape := ⟨2, ![256, 18944]⟩
abbrev S256x592 : Shape := ⟨2, ![256, 592]⟩
abbrev S256x112x32 : Shape := ⟨3, ![256, 112, 32]⟩
abbrev S256x112x1 : Shape := ⟨3, ![256, 112, 1]⟩
abbrev S18944x112x32 : Shape := ⟨3, ![18944, 112, 32]⟩
abbrev S18944x112x1 : Shape := ⟨3, ![18944, 112, 1]⟩
abbrev S256x592x32 : Shape := ⟨3, ![256, 592, 32]⟩
abbrev S256x592x1 : Shape := ⟨3, ![256, 592, 1]⟩

abbrev nBuf : Space → Nat
  | .hbm => 10
  | .vmem => 8
  | .smem => 0
  | _ => 0

abbrev bufTy : (tb : Table) → Fin (tcTables nBuf tb) → BufTy
  | .hbm, ⟨0, _⟩ => ⟨S1x256x3584, .fp8e4m3⟩
  | .hbm, ⟨1, _⟩ => ⟨S1x256x112, .i8⟩
  | .hbm, ⟨2, _⟩ => ⟨S18944x3584, .fp8e4m3⟩
  | .hbm, ⟨3, _⟩ => ⟨S18944x112, .i8⟩
  | .hbm, ⟨4, _⟩ => ⟨S18944x3584, .fp8e4m3⟩
  | .hbm, ⟨5, _⟩ => ⟨S18944x112, .i8⟩
  | .hbm, ⟨6, _⟩ => ⟨S256x3584, .fp8e4m3⟩
  | .hbm, ⟨7, _⟩ => ⟨S256x112, .i8⟩
  | .hbm, ⟨8, _⟩ => ⟨S256x18944, .fp8e4m3⟩
  | .hbm, ⟨9, _⟩ => ⟨S256x592, .i8⟩
  | .local _ .vmem, ⟨0, _⟩ => ⟨S256x3584, .fp8e4m3⟩
  | .local _ .vmem, ⟨1, _⟩ => ⟨S256x112, .i8⟩
  | .local _ .vmem, ⟨2, _⟩ => ⟨S18944x3584, .fp8e4m3⟩
  | .local _ .vmem, ⟨3, _⟩ => ⟨S18944x112, .i8⟩
  | .local _ .vmem, ⟨4, _⟩ => ⟨S18944x3584, .fp8e4m3⟩
  | .local _ .vmem, ⟨5, _⟩ => ⟨S18944x112, .i8⟩
  | .local _ .vmem, ⟨6, _⟩ => ⟨S256x18944, .fp8e4m3⟩
  | .local _ .vmem, ⟨7, _⟩ => ⟨S256x592, .i8⟩
  | _, _ => ⟨S1x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x112 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944x112 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18944x112 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x18944 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x592 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Dequant.lean ====
/-
  The dequantisation both the kernel and the reference state, one element at a time: an element of the weight (or of
  x) widened to bfloat16, times its group's scale — the scale byte moved to where a bfloat16 keeps its exponent. And
  the kernel's tiling of it: the scale bytes packed two rows to a 32-bit word, spread over the columns by a gather
  along the lanes, and unpacked again.
-/
module

public import Idealize.ShloMosaic.Lib.BitcastPair
public import Idealize.ShloMosaic.Lib.Pointwise.Reshape
public import Idealize.ShloMosaic.Lib.Pipeline.Value
public import Idealize.ShloMosaic.Lib.Pipeline.ValueKit

@[expose] public section

set_option maxRecDepth 16384

noncomputable section

namespace Cert.Mx

open Idealize.ShloMosaic

variable {F : FTy → Type} [FloatOps F]

/-- A rank-2 shape. -/
abbrev Sh (a b : ℕ) : Shape := ⟨2, ![a, b]⟩

/-- A group of 32 columns' index: column `k`'s. -/
def grp {n : ℕ} (k : Fin n) (h : n ≤ 3584) : Fin 112 := ⟨k.val / 32, by have := k.isLt; omega⟩

/-- The sixteen bits of the bfloat16 whose exponent field is the scale byte. -/
def scaleBits (b : BitVec 8) : BitVec 16 := (IntOp.shli .vector (b.setWidth 32) 7#32).setWidth 16

/-- One dequantised array: each element widened to bfloat16, times the scale of its row's group of 32 columns. -/
def dq {n : ℕ} (w : Vec F (Sh n 3584) .fp8e4m3) (s : Vec F (Sh n 112) .i8) : FVec F (Sh n 3584) .bf16 := fun y =>
  FloatOps.mulf (FloatOps.extf .bf16 (by decide) (w y)) (FloatOps.ofBits .bf16 (scaleBits (s (ValueIdx.ix2 (y 0) (grp (y 1) (le_refl _))))))

/-- The lane index of the gather for a tile of columns: group within the row, negative indices wrapped. -/
def gatherIdx (R : ℕ) (c : BitVec 32) (h : (Sh R 128).Iotas .tc 32 [1]) : IVec (Sh R 128) 32 :=
  let q : IVec (Sh R 128) 32 := addi (shrsi (iota .tc (Sh R 128) 32 [1] h) (broadcast (Sh R 128) 5#32)) (broadcast (Sh R 128) c)
  select (cmpi .slt q (broadcast (Sh R 128) 0#32)) (addi q (broadcast (Sh R 128) 128#32)) q

/-- One tile of 128 columns as the kernel computes it from the packed words `W` and the tile `sl` of the codes. -/
def tile (N R : ℕ) (c : BitVec 32) (hi : (Sh R 128).Iotas .tc 32 [1]) (h1 : (Sh R 128).ShapeCasts ⟨3, ![R, 128, 1]⟩)
    (h2 : (⟨3, ![R, 128, 1]⟩ : Shape).ShapeCasts (Sh R 128)) (hb : (Sh R 128).Bitcasts 32 (Sh N 128) 16)
    (h3 : (Sh N 128).ShapeCasts (Sh N 128))
    (W : IVec (Sh R 128) 32) (sl : FVec F (Sh N 128) .fp8e4m3) : FVec F (Sh N 128) .bf16 :=
  shapeCast (Sh N 128) (mulf (extf .bf16 sl (by decide)) (bitcastToFloat .bf16 (bitcast (Sh N 128) 16
    (dynamicGather 1 W (shapeCast (Sh R 128) (shapeCast ⟨3, ![R, 128, 1]⟩ (gatherIdx R c hi) h1) h2)) hb))) h3

/-- The packed words as the kernel computes them: the scale bytes shifted, cut to sixteen bits, two rows to a word. -/
def words (N R : ℕ) (hb : (Sh N 112).Bitcasts 16 (Sh R 112) 32) (h : (Sh R 112).ShapeCasts (Sh R 112)) (s : IVec (Sh N 112) 8) : IVec (Sh R 112) 32 :=
  shapeCast (Sh R 112) (bitcast (Sh R 112) 32 (trunci 16 (shli (extui 32 s (by decide)) (broadcast (Sh N 112) 7#32)) (by decide)) hb) h

/-- The gather's index as a number: the column's group. -/
theorem gather_nat : ∀ (j : Fin 28) (l : Fin 128),
    (Scalar.select (IntOp.cmpi .slt (IntOp.addi (IntOp.shrsi .vector (BitVec.ofNat 32 l.val) 5#32) (BitVec.ofNat 32 (4 * j.val))) 0#32)
      (IntOp.addi (IntOp.addi (IntOp.shrsi .vector (BitVec.ofNat 32 l.val) 5#32) (BitVec.ofNat 32 (4 * j.val))) 128#32)
      (IntOp.addi (IntOp.shrsi .vector (BitVec.ofNat 32 l.val) 5#32) (BitVec.ofNat 32 (4 * j.val)))).toNat = l.val / 32 + 4 * j.val := by
  decide +kernel

theorem gatherIdx_toNat (R : ℕ) (j : Fin 28) (h : (Sh R 128).Iotas .tc 32 [1]) (x : (Sh R 128).Idx) :
    (gatherIdx R (BitVec.ofNat 32 (4 * j.val)) h x).toNat = (x 1).val / 32 + 4 * j.val := by
  have := gather_nat j (x 1)
  rw [← this]
  simp only [gatherIdx, select, cmpi, addi, shrsi, iota, broadcast, List.foldl, Nat.zero_mul, Nat.zero_add]

/-- The two halves of a packed word are its two rows' sixteen bits. -/
theorem halves (a b : BitVec 16) : (a ++ b : BitVec 32).extractLsb' 0 16 = b ∧ (a ++ b : BitVec 32).extractLsb' 16 16 = a := by
  constructor <;>
  · apply BitVec.eq_of_getLsbD_eq
    intro i hi
    rw [BitVec.getLsbD_extractLsb', BitVec.getLsbD_append]
    simp [hi]

/-- Row `r`'s half of the packed word is row `r`'s sixteen bits. -/
theorem words_half (N R : ℕ) (hN : N = 2 * R) (hb h) (s : IVec (Sh N 112) 8) (r : Fin N) (r' : Fin R) (hr : r'.val = r.val / 2) (k : Fin 112) :
    (words N R hb h s (ValueIdx.ix2 r' k)).extractLsb' (16 * (r.val % 2)) 16 = scaleBits (s (ValueIdx.ix2 r k)) := by
  unfold words
  rw [shapeCast_id, bitcast_16_32]
  have e : ∀ (p : ℕ) (hp) (hpr : p < N), hb.srcIdx (ValueIdx.ix2 r' k : (Sh R 112).Idx) p hp = (ValueIdx.ix2 ⟨p, hpr⟩ k : (Sh N 112).Idx) := by
    intro p hp hpr
    funext a; apply Fin.ext
    match a with
    | ⟨0, _⟩ => exact hb.srcIdx_row _ _ _ _ rfl
    | ⟨1, _⟩ => exact (hb.srcIdx_other _ _ _ _ (show ¬ (1 + 2 = 2) by decide)).trans rfl
  have hrow : (Sh R 112).row (ValueIdx.ix2 r' k : (Sh R 112).Idx) = r'.val := rfl
  rw [e _ _ (by rw [hrow]; have := r.isLt; have := r'.isLt; omega), e _ _ (by rw [hrow]; have := r'.isLt; omega)]
  rcases Nat.mod_two_eq_zero_or_one r.val with h0 | h0
  · rw [h0, (halves _ _).1]
    have : (⟨2 * (Sh R 112).row (ValueIdx.ix2 r' k : (Sh R 112).Idx), by rw [hrow]; have := r'.isLt; omega⟩ : Fin N) = r := Fin.ext (by show 2 * (Sh R 112).row (ValueIdx.ix2 r' k : (Sh R 112).Idx) = _; rw [hrow]; omega)
    rw [this]; rfl
  · rw [h0, (halves _ _).2]
    have : (⟨2 * (Sh R 112).row (ValueIdx.ix2 r' k : (Sh R 112).Idx) + 1, by rw [hrow]; have := r'.isLt; have := r.isLt; omega⟩ : Fin N) = r := Fin.ext (by show 2 * (Sh R 112).row (ValueIdx.ix2 r' k : (Sh R 112).Idx) + 1 = _; rw [hrow]; omega)
    rw [this]; rfl

/-- A tile is the dequantised array's columns, whatever the words' columns past the 112 groups hold. -/
theorem tile_eq (N R : ℕ) (hN : N = 2 * R) (j : Fin 28) (hi h1 h2 hb h3 hb' h4)
    (W : IVec (Sh R 128) 32) (w : Vec F (Sh N 3584) .fp8e4m3) (s : Vec F (Sh N 112) .i8)
    (hW : ∀ (r : Fin R) (k : Fin 112), W (ValueIdx.ix2 r (k.castLE (by decide))) = words N R hb' h4 s (ValueIdx.ix2 r k))
    (c : BitVec 32) (hc : c = BitVec.ofNat 32 (4 * j.val))
    (off : Fin 2 → ℕ) (inb) (h0 : off 0 = 0) (hoff : off 1 = 128 * j.val) (sl : FVec F (Sh N 128) .fp8e4m3)
    (hsl : ∀ x, sl x = w ((Rect.unit (s := Sh N 3584) off ![N, 128] inb).emb x)) (x : (Sh N 128).Idx) :
    tile N R c hi h1 h2 hb h3 W sl x = dq w s ((Rect.unit (s := Sh N 3584) off ![N, 128] inb).emb x) := by
  subst hc
  unfold tile dq
  rw [shapeCast_id]
  show FloatOps.mulf (FloatOps.extf .bf16 _ (sl x)) (FloatOps.ofBits .bf16 (bitcast (Sh N 128) 16 _ hb x)) = _
  rw [hsl, bitcast_32_16, shapeCast_comp, shapeCast_id]
  have hx0 := (x 0).isLt
  have hx1 : (x 1).val < 128 := (x 1).isLt
  have hj := j.isLt
  have hrow : (Sh N 128).row x = (x 0).val := rfl
  congr 2
  set y := (Rect.unit (s := Sh N 3584) off ![N, 128] inb).emb x with hy
  have hy0 : (y 0).val = (x 0).val := by
    rw [hy]; show off 0 + 1 * (x 0).val = _; omega
  have hy1 : (y 1).val = 128 * j.val + (x 1).val := by
    rw [hy]; show off 1 + 1 * (x 1).val = _; omega
  have hr' : (x 0).val / 2 < R := by have : (x 0).val < N := hx0; omega
  have key := words_half N R hN hb' h4 s (y 0) ⟨(x 0).val / 2, hr'⟩ (by show (x 0).val / 2 = _; rw [hy0]) (grp (y 1) (le_refl _))
  rw [← key, ← hW, hy0]
  show BitVec.extractLsb' (16 * ((x 0).val % 2)) 16 _ = _
  congr 1
  unfold dynamicGather
  congr 1
  funext b; apply Fin.ext
  match b with
  | ⟨0, _⟩ =>
    rw [if_neg (fun e => absurd (congrArg Fin.val e) (by simp))]
    exact (hb.srcIdx_row _ _ _ _ rfl)
  | ⟨1, _⟩ =>
    split
    swap; · rename_i hne; exact absurd (Fin.ext rfl) hne
    show (gatherIdx R _ hi _).toNat % 128 = (y 1).val / 32
    rw [gatherIdx_toNat, hy1]
    have : ((hb.srcIdx x ((Sh N 128).row x / 2) (fun a ha => by have := hb.pos_lt x 0 (by decide) a ha; omega)) 1).val = (x 1).val :=
      (hb.srcIdx_other _ _ _ _ (show ¬ (1 + 2 = 2) by decide)).trans rfl
    rw [this]
    omega

/-- The same for a stored piece at columns `o` on, whatever term it is written as. -/
theorem tile_piece (N R : ℕ) (hN : N = 2 * R) {hi h1 h2 hb h3 hb' h4}
    {W : IVec (Sh R 128) 32} {w : Vec F (Sh N 3584) .fp8e4m3} {s : Vec F (Sh N 112) .i8}
    (hW : ∀ (r : Fin R) (k : Fin 112), W (ValueIdx.ix2 r (k.castLE (by decide))) = words N R hb' h4 s (ValueIdx.ix2 r k))
    {o : ℕ} (ho : o % 128 = 0) (ho' : o < 3584) {inb} {sl : FVec F (Sh N 128) .fp8e4m3}
    (hsl : ∀ x, sl x = w ((Rect.unit (s := Sh N 3584) ![0, o] ![N, 128] inb).emb x)) {P : FVec F (Sh N 128) .bf16}
    (hP : P = tile N R (BitVec.ofNat 32 (o / 32)) hi h1 h2 hb h3 W sl) (x : (Sh N 128).Idx) :
    P x = dq w s ((Rect.unit (s := Sh N 3584) ![0, o] ![N, 128] inb).emb x) := by
  rw [hP]
  exact tile_eq N R hN ⟨o / 128, by omega⟩ hi h1 h2 hb h3 hb' h4 W w s hW _ (by show BitVec.ofNat 32 (o / 32) = BitVec.ofNat 32 (4 * (o / 128)); congr 1; omega)
    ![0, o] inb rfl (by show o = 128 * (o / 128); omega) sl hsl x

end Cert.Mx

end
-- ==== Proof.BodyKernel.lean ====
/-
  The kernel's body, run once over whole staging buffers and its five scratch buffers: what one grid point leaves.

  A point dequantises its 512 rows of each weight into the scratch weight buffer, tile by tile (`Cert.Mx.dq`), multiplies
  them with the dequantised x (which the first point leaves in a scratch buffer and every later point finds there),
  applies the gate, quantises by groups of 32 (`codes`, `scales`), stores the codes into the point's block of the
  first result and the scales into the point's sixteen rows of a scratch buffer. The last point stores that scratch
  buffer, transposed, into the second result.
-/
module

public import proofs.«01_k».proof.Proof.Gen.Kernel.Frame
public import proofs.«01_k».proof.Proof.Gen.Kernel.Skeleton
public import proofs.«01_k».proof.Proof.Dequant
public import Idealize.ShloMosaic.Lib.Tactic

@[expose] public section

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Mx

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## What a point computes -/

/-- The gate's product of a point: the weight's 512 rows times the dequantised x. -/
def gateOf (X : FVec F S256x3584 .bf16) (w : Vec F S512x3584 .fp8e4m3) (s : Vec F S512x112 .i8) : FVec F S512x256 .f32 :=
  k0_pay94 (dq w s) X

/-- The gated product, its rows in groups of 32. -/
def hid (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : FVec F S16x32x256 .f32 :=
  k0_pay140 (gateOf (dq x0 x1) x2 x3) (dq x4 x5) (dq x0 x1)

/-- The largest magnitude of each group. -/
def amax (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : FVec F S16x1x256 .f32 :=
  k0_pay141 (gateOf (dq x0 x1) x2 x3) (dq x4 x5) (dq x0 x1)

/-- The exponent of each group, from the largest magnitude `a` of it. -/
def expo (a : FVec F S16x1x256 .f32) : IVec S16x1x256 32 :=
  k0_pay147 (k0_pay142 a (Scalar.ofBits .f32 0x3B124925#32)) (k0_pay143 a (Scalar.ofBits .f32 0x3B124925#32))
    (k0_pay144 a (Scalar.ofBits .f32 0x3B124925#32)) (k0_pay145 a (Scalar.ofBits .f32 0x3B124925#32)) k0_pay146

/-- The groups scaled. -/
def scaled (h : FVec F S16x32x256 .f32) (a : FVec F S16x1x256 .f32) : FVec F S16x32x256 .f32 :=
  k0_pay148 h (k0_pay142 a (Scalar.ofBits .f32 0x3B124925#32)) (k0_pay143 a (Scalar.ofBits .f32 0x3B124925#32))
    (k0_pay144 a (Scalar.ofBits .f32 0x3B124925#32)) (k0_pay145 a (Scalar.ofBits .f32 0x3B124925#32)) k0_pay146

/-- The codes a point stores: its block of the first result. -/
def codes (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : FVec F S256x512 .fp8e4m3 :=
  k0_pay149 (scaled (hid x0 x1 x2 x3 x4 x5) (amax x0 x1 x2 x3 x4 x5)) (Scalar.ofBits .f32 0xC3E00000#32) (Scalar.ofBits .f32 0x43E00000#32)

/-- The biased exponents a point stores: its sixteen rows of the scratch buffer of the scales. -/
def scales (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : IVec S16x256 32 :=
  k0_pay150 (expo (amax x0 x1 x2 x3 x4 x5))

/-! ## The scratch weight buffer, tile by tile -/

/-- One more tile of 128 columns, the contents below it already those of `G`. -/
theorem canon_tile_step {S : Shape} {e : EltTy} (hr : S.rank = 2) (G : S.Idx → Elt F e) (off : Fin S.rank → ℕ) (size : Fin S.rank → ℕ)
    (inb : ∀ a, off a + size a ≤ S.size a) (P : (⟨S.rank, size⟩ : Shape).Idx → Elt F e) (L : List (View.Piece (Elt F) S e)) (B : ℕ)
    (h0 : off ⟨0, by omega⟩ = 0) (hs0 : size ⟨0, by omega⟩ = S.size ⟨0, by omega⟩) (hB : B = off ⟨1, by omega⟩ + size ⟨1, by omega⟩)
    (hP : ∀ x, P x = G ((Rect.unit off size inb).emb x))
    (hL : ∀ y : S.Idx, (y ⟨1, by omega⟩).val < off ⟨1, by omega⟩ → View.canon L y = G y) :
    ∀ y : S.Idx, (y ⟨1, by omega⟩).val < B → View.canon ((⟨Rect.unit off size inb, P⟩ : View.Piece (Elt F) S e) :: L) y = G y := by
  intro y hy
  by_cases hm : y ∈ (Rect.unit off size inb).set
  · obtain ⟨x, rfl⟩ := (Rect.unit off size inb).exists_idx_of_mem hm
    exact (View.canon_cons_emb (Rect.unit off size inb) P L x).trans (hP x)
  · rw [View.canon_cons_of_not_mem _ _ hm]
    refine hL y ?_
    by_contra hge
    refine hm (Rect.mem_set_unit.mpr fun a => ?_)
    obtain ⟨a, ha⟩ := a
    rcases (show a = 0 ∨ a = 1 by omega) with rfl | rfl
    · rw [h0, hs0]; have := (y ⟨0, by omega⟩).isLt; omega
    · omega

/-- A load of the words after the groups' columns are stored reads the stored words there. -/
theorem words_read {R : ℕ} {sg : RefSig} {κ : Kind} {sp : Space} (v : View sg κ sp (Sh R 128) .i32) (f : v.ty.Contents (Elt F))
    (inb) (inb') (pay : IVec (Sh R 112) 32) (L : List (View.Piece (Elt F) (Sh R 128) .i32)) (r : Fin R) (k : Fin 112) :
    v.readAt (Elt F) (Rect.unit (s := Sh R 128) ![0, 0] ![R, 128] inb).toLoadRect
      (v.writes (Elt F) f (⟨Rect.unit (s := Sh R 128) ![0, 0] ![R, 112] inb', pay⟩ :: L)) (ValueIdx.ix2 r (k.castLE (by decide)))
      = pay (ValueIdx.ix2 r k) := by
  rw [View.readAt_eq_ld]
  show v.read (Elt F) _ _ = _
  have e : (Rect.unit (s := Sh R 128) ![0, 0] ![R, 128] inb).emb (ValueIdx.ix2 r (k.castLE (by decide)))
      = (Rect.unit (s := Sh R 128) ![0, 0] ![R, 112] inb').emb (ValueIdx.ix2 r k) := by
    funext a; apply Fin.ext
    match a with
    | ⟨0, _⟩ => rfl
    | ⟨1, _⟩ => rfl
  exact (congrArg _ e).trans (View.read_writes_cons_emb ..)

/-- A load of the whole buffer after covering stores, the contents known column by column. -/
theorem whole_read {sg : RefSig} {κ : Kind} {sp : Space} {S : Shape} {e : EltTy} [∀ e, Nonempty (Elt F e)] (v : View sg κ sp S e)
    (L : List (View.Piece (Elt F) S e)) {off : Fin S.rank → ℕ} (h0 : off = fun _ => 0) (inb) (hr : 1 < S.rank) (G : S.Idx → Elt F e)
    (h : ∀ y : S.Idx, (y ⟨1, hr⟩).val < S.size ⟨1, hr⟩ → View.canon L y = G y) :
    v.readCov L (Rect.unit off S.size inb).toLoadRect = G := by
  rw [View.readCov_eq_canon']
  subst h0
  funext y
  have e : (Rect.unit (s := S) (fun _ => 0) S.size inb).toLoadRect.idx y = y := by
    funext a; apply Fin.ext
    show 0 + 1 * (y a).val = _
    omega
  rw [e]
  exact h y (y _).isLt

set_option maxHeartbeats 8000000 in
set_option sl_exec.resultNames true in
/-- A point past the first, up to its last test: x is found dequantised. -/
theorem run48_rest (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8)
    (f9 : Bf (F := F) c arg9) (f10 : Bf (F := F) c arg10) (f11 : Bf (F := F) c arg11) (f12 : Bf (F := F) c arg12) (f13 : Bf (F := F) c arg13)
    (h1 : ¬ (Scalar.cmpi .ne (Scalar.extui (Scalar.cmpi .eq (BitVec.ofNat 32 (i 0).val) 0#32)) 0#32 : BitVec 1) = 1#1)
    (h9 : arg9.view.read (Elt F) f9 = dq x0 x1)
    (Q : _ → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ pt c arg9 f9 ∗ pt c arg10 f10 ∗ pt c arg11 f11 ∗ pt c arg12 f12 ∗ pt c arg13 f13
        ∗ (∀ r, iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ (∃ f, ⌜arg9.view.read (Elt F) f = dq x0 x1⌝ ∗ pt c arg9 f) ∗ (∃ f, pt c arg10 f) ∗ (∃ f, pt c arg11 f) ∗ (∃ f, pt c arg12 f)
            ∗ pt c arg13 (arg13.view.writes (Elt F) f13 [⟨Rect.unit (k0_off1 i) S16x256.size (k0_off1_inb i), scales x0 x1 x2 x3 x4 x5⟩])) -∗ Q r))
      ⊢ wp frame (wpE (defs₀ (F := F)) Variants.none c none) E (k0_part48 i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, H9, H10, H11, H12, H13, Hk⟩
  subst hf1 hf2 hf3 hf4 hf5 hf6
  sl_exec_parts
  sl_step
  have hX : arg9.view.readAt (Elt F) (Rect.unit (s := S256x3584) ![0, 0] S256x3584.size inb_S256x3584_S256x3584_0_0).toLoadRect f9 = dq (arg1.view.read (Elt F) f1) (arg2.view.read (Elt F) f2) := by
    rw [View.readAt_eq_ld, View.ld_unit_zero (by decide)]; exact h9
  have hs4 : arg4.view.readAt (Elt F) (Rect.unit (s := S512x112) ![0, 0] S512x112.size inb_S512x112_S512x112_0_0).toLoadRect f4 = arg4.view.read (Elt F) f4 := by
    rw [View.readAt_eq_ld, View.ld_unit_zero (by decide)]
  have hs6 : arg6.view.readAt (Elt F) (Rect.unit (s := S512x112) ![0, 0] S512x112.size inb_S512x112_S512x112_0_0).toLoadRect f6 = arg6.view.read (Elt F) f6 := by
    rw [View.readAt_eq_ld, View.ld_unit_zero (by decide)]
  have hW4 := fun r k => (words_read (F := F) arg11.view f11 inb_S256x128_S256x128_0_0 inb_S256x128_S256x112_0_0
    (words 512 256 bitcasts_S512x112_w16_S256x112_w32 shapeCasts_S256x112_S256x112 (arg4.view.readAt (Elt F) (Rect.unit (s := S512x112) ![0, 0] S512x112.size inb_S512x112_S512x112_0_0).toLoadRect f4)) [] r k).trans
    (congrFun (congrArg (words 512 256 bitcasts_S512x112_w16_S256x112_w32 shapeCasts_S256x112_S256x112) hs4) _)
  have hW6 := fun r k => (words_read (F := F) arg11.view f11 inb_S256x128_S256x128_0_0 inb_S256x128_S256x112_0_0
    (words 512 256 bitcasts_S512x112_w16_S256x112_w32 shapeCasts_S256x112_S256x112 (arg6.view.readAt (Elt F) (Rect.unit (s := S512x112) ![0, 0] S512x112.size inb_S512x112_S512x112_0_0).toLoadRect f6))
    (run48_rest.sl.H11_1 c arg4 f4) r k).trans
    (congrFun (congrArg (words 512 256 bitcasts_S512x112_w16_S256x112_w32 shapeCasts_S256x112_S256x112) hs6) _)
  have hg : run48_rest.sl.v573 c arg3 arg4 arg11 arg12 f11 f3 f4 = dq (arg3.view.read (Elt F) f3) (arg4.view.read (Elt F) f4) := by
    refine whole_read _ _ (by decide) _ (by decide) _ ?_
    iterate 28
      refine canon_tile_step rfl _ _ _ _ _ _ _ rfl rfl rfl (tile_piece 512 256 rfl hW4 (by decide) (by decide) (fun _ => rfl) rfl) ?_
    exact fun y hy => absurd hy (Nat.not_lt_zero _)
  have hu : run48_rest.sl.v1146 c arg3 arg4 arg5 arg6 arg11 arg12 f11 f3 f4 f5 f6 = dq (arg5.view.read (Elt F) f5) (arg6.view.read (Elt F) f6) := by
    refine whole_read _ _ (by decide) _ (by decide) _ ?_
    iterate 28
      refine canon_tile_step rfl _ _ _ _ _ _ _ rfl rfl rfl (tile_piece 512 256 rfl hW6 (by decide) (by decide) (fun _ => rfl) rfl) ?_
    exact fun y hy => absurd hy (Nat.not_lt_zero _)
  have hcodes : k0_pay149 (run48_rest.sl.v1243 c arg3 arg4 arg5 arg6 arg9 arg11 arg12 f9 f11 f3 f4 f5 f6) run48_rest.sl.cst_548 run48_rest.sl.cst_549
      = codes (arg1.view.read (Elt F) f1) (arg2.view.read (Elt F) f2) (arg3.view.read (Elt F) f3) (arg4.view.read (Elt F) f4) (arg5.view.read (Elt F) f5) (arg6.view.read (Elt F) f6) := by
    unfold codes scaled hid amax gateOf
    rw [← hg, ← hu, ← hX]
    rfl
  have hscales : k0_pay150 (run48_rest.sl.v1236 c arg3 arg4 arg5 arg6 arg9 arg11 arg12 f9 f11 f3 f4 f5 f6)
      = scales (arg1.view.read (Elt F) f1) (arg2.view.read (Elt F) f2) (arg3.view.read (Elt F) f3) (arg4.view.read (Elt F) f4) (arg5.view.read (Elt F) f5) (arg6.view.read (Elt F) f6) := by
    unfold scales expo amax gateOf
    rw [← hg, ← hu, ← hX]
    rfl
  rw [hscales]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (View.cover_of_tiled _ S256x512.size (by rfl))).trans ?_
    rw [View.canon_unit_zero (by decide)]
    exact hcodes
  isplitl [H9]
  · iexists f9; isplitr; · ipureintro; exact h9
    iexact H9
  isplitl [H10]; · iexists _; iexact H10
  isplitl [H11]; · iexists _; iexact H11
  isplitl [H12]; · iexists _; iexact H12
  iexact H13

set_option maxHeartbeats 8000000 in
set_option sl_exec.resultNames true in
/-- The first point, up to its last test: x is dequantised. -/
theorem run48_first (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8)
    (f9 : Bf (F := F) c arg9) (f10 : Bf (F := F) c arg10) (f11 : Bf (F := F) c arg11) (f12 : Bf (F := F) c arg12) (f13 : Bf (F := F) c arg13)
    (h1 : (Scalar.cmpi .ne (Scalar.extui (Scalar.cmpi .eq (BitVec.ofNat 32 (i 0).val) 0#32)) 0#32 : BitVec 1) = 1#1)
    (Q : _ → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ pt c arg9 f9 ∗ pt c arg10 f10 ∗ pt c arg11 f11 ∗ pt c arg12 f12 ∗ pt c arg13 f13
        ∗ (∀ r, iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ (∃ f, ⌜arg9.view.read (Elt F) f = dq x0 x1⌝ ∗ pt c arg9 f) ∗ (∃ f, pt c arg10 f) ∗ (∃ f, pt c arg11 f) ∗ (∃ f, pt c arg12 f)
            ∗ pt c arg13 (arg13.view.writes (Elt F) f13 [⟨Rect.unit (k0_off1 i) S16x256.size (k0_off1_inb i), scales x0 x1 x2 x3 x4 x5⟩])) -∗ Q r))
      ⊢ wp frame (wpE (defs₀ (F := F)) Variants.none c none) E (k0_part48 i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, H9, H10, H11, H12, H13, Hk⟩
  subst hf1 hf2 hf3 hf4 hf5 hf6
  sl_exec_parts
  sl_step
  have hs2 : arg2.view.readAt (Elt F) (Rect.unit (s := S256x112) ![0, 0] S256x112.size inb_S256x112_S256x112_0_0).toLoadRect f2 = arg2.view.read (Elt F) f2 := by
    rw [View.readAt_eq_ld, View.ld_unit_zero (by decide)]
  have hW2 := fun r k => (words_read (F := F) arg10.view f10 inb_S128x128_S128x128_0_0 inb_S128x128_S128x112_0_0
    (words 256 128 bitcasts_S256x112_w16_S128x112_w32 shapeCasts_S128x112_S128x112 (shapeCast S256x112 (arg2.view.readAt (Elt F) (Rect.unit (s := S256x112) ![0, 0] S256x112.size inb_S256x112_S256x112_0_0).toLoadRect f2) shapeCasts_S256x112_S256x112)) [] r k).trans
    (congrFun (congrArg (words 256 128 bitcasts_S256x112_w16_S128x112_w32 shapeCasts_S128x112_S128x112) ((shapeCast_self _ _).trans hs2)) _)
  have hx : ∀ y : S256x3584.Idx, (y 1).val < 3584 → View.canon (run48_first.sl.H9_28 c arg1 arg2 arg10 f10 f1 f2) y = dq (arg1.view.read (Elt F) f1) (arg2.view.read (Elt F) f2) y := by
    iterate 28
      refine canon_tile_step rfl _ _ _ _ _ _ _ rfl rfl rfl (tile_piece 256 128 rfl hW2 (by decide) (by decide) (fun x => congrFun (shapeCast_self _ _) x) rfl) ?_
    exact fun y hy => absurd hy (Nat.not_lt_zero _)
  have hX : arg9.view.readCov (run48_first.sl.H9_28 c arg1 arg2 arg10 f10 f1 f2) (Rect.unit (s := S256x3584) ![0, 0] S256x3584.size inb_S256x3584_S256x3584_0_0).toLoadRect = dq (arg1.view.read (Elt F) f1) (arg2.view.read (Elt F) f2) :=
    by refine whole_read _ _ (by decide) _ (by decide) _ ?_; exact hx
  have h9 : arg9.view.read (Elt F) (arg9.view.writes (Elt F) f9 (run48_first.sl.H9_28 c arg1 arg2 arg10 f10 f1 f2)) = dq (arg1.view.read (Elt F) f1) (arg2.view.read (Elt F) f2) := by
    refine (View.read_writes_eq_canon _ _ _ (View.cover_of_tiled (run48_first.sl.H9_28 c arg1 arg2 arg10 f10 f1 f2) S256x128.size (by rfl))).trans ?_
    funext y
    exact hx y (y 1).isLt
  have hs4 : arg4.view.readAt (Elt F) (Rect.unit (s := S512x112) ![0, 0] S512x112.size inb_S512x112_S512x112_0_0).toLoadRect f4 = arg4.view.read (Elt F) f4 := by
    rw [View.readAt_eq_ld, View.ld_unit_zero (by decide)]
  have hs6 : arg6.view.readAt (Elt F) (Rect.unit (s := S512x112) ![0, 0] S512x112.size inb_S512x112_S512x112_0_0).toLoadRect f6 = arg6.view.read (Elt F) f6 := by
    rw [View.readAt_eq_ld, View.ld_unit_zero (by decide)]
  have hW4 := fun r k => (words_read (F := F) arg11.view f11 inb_S256x128_S256x128_0_0 inb_S256x128_S256x112_0_0
    (words 512 256 bitcasts_S512x112_w16_S256x112_w32 shapeCasts_S256x112_S256x112 (arg4.view.readAt (Elt F) (Rect.unit (s := S512x112) ![0, 0] S512x112.size inb_S512x112_S512x112_0_0).toLoadRect f4)) [] r k).trans
    (congrFun (congrArg (words 512 256 bitcasts_S512x112_w16_S256x112_w32 shapeCasts_S256x112_S256x112) hs4) _)
  have hW6 := fun r k => (words_read (F := F) arg11.view f11 inb_S256x128_S256x128_0_0 inb_S256x128_S256x112_0_0
    (words 512 256 bitcasts_S512x112_w16_S256x112_w32 shapeCasts_S256x112_S256x112 (arg6.view.readAt (Elt F) (Rect.unit (s := S512x112) ![0, 0] S512x112.size inb_S512x112_S512x112_0_0).toLoadRect f6))
    (run48_first.sl.H11_1 c arg4 f4) r k).trans
    (congrFun (congrArg (words 512 256 bitcasts_S512x112_w16_S256x112_w32 shapeCasts_S256x112_S256x112) hs6) _)
  have hg : run48_first.sl.v573 c arg3 arg4 arg11 arg12 f11 f3 f4 = dq (arg3.view.read (Elt F) f3) (arg4.view.read (Elt F) f4) := by
    refine whole_read _ _ (by decide) _ (by decide) _ ?_
    iterate 28
      refine canon_tile_step rfl _ _ _ _ _ _ _ rfl rfl rfl (tile_piece 512 256 rfl hW4 (by decide) (by decide) (fun _ => rfl) rfl) ?_
    exact fun y hy => absurd hy (Nat.not_lt_zero _)
  have hu : run48_first.sl.v1146 c arg3 arg4 arg5 arg6 arg11 arg12 f11 f3 f4 f5 f6 = dq (arg5.view.read (Elt F) f5) (arg6.view.read (Elt F) f6) := by
    refine whole_read _ _ (by decide) _ (by decide) _ ?_
    iterate 28
      refine canon_tile_step rfl _ _ _ _ _ _ _ rfl rfl rfl (tile_piece 512 256 rfl hW6 (by decide) (by decide) (fun _ => rfl) rfl) ?_
    exact fun y hy => absurd hy (Nat.not_lt_zero _)
  have hcodes : k0_pay149 (run48_first.sl.v1243 c arg1 arg2 arg3 arg4 arg5 arg6 arg9 arg10 arg11 arg12 f10 f11 f1 f2 f3 f4 f5 f6) run48_first.sl.cst_548 run48_first.sl.cst_549
      = codes (arg1.view.read (Elt F) f1) (arg2.view.read (Elt F) f2) (arg3.view.read (Elt F) f3) (arg4.view.read (Elt F) f4) (arg5.view.read (Elt F) f5) (arg6.view.read (Elt F) f6) := by
    unfold codes scaled hid amax gateOf
    rw [← hg, ← hu, ← hX]
    rfl
  have hscales : k0_pay150 (run48_first.sl.v1236 c arg1 arg2 arg3 arg4 arg5 arg6 arg9 arg10 arg11 arg12 f10 f11 f1 f2 f3 f4 f5 f6)
      = scales (arg1.view.read (Elt F) f1) (arg2.view.read (Elt F) f2) (arg3.view.read (Elt F) f3) (arg4.view.read (Elt F) f4) (arg5.view.read (Elt F) f5) (arg6.view.read (Elt F) f6) := by
    unfold scales expo amax gateOf
    rw [← hg, ← hu, ← hX]
    rfl
  rw [hscales]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (View.cover_of_tiled _ S256x512.size (by rfl))).trans ?_
    rw [View.canon_unit_zero (by decide)]
    exact hcodes
  isplitl [H9]
  · iexists _; isplitr; · ipureintro; exact h9
    iexact H9
  isplitl [H10]; · iexists _; iexact H10
  isplitl [H11]; · iexists _; iexact H11
  isplitl [H12]; · iexists _; iexact H12
  iexact H13

end Cert.Kernel.Body

end
-- ==== Proof.RunKernel.lean ====
/-
  The kernel's whole run: what each grid point finds and leaves, and what the two result arrays hold at the end.
-/
module

public import proofs.«01_k».proof.Proof.BodyKernel

@[expose] public section

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mx

variable {F : FTy → Type} [FloatOps F]

local notation "𝕄" => MT nD τ sig Unit (Elt F) ℕ (UR sig nD τ) ℕ

/-! ## The grid's tests -/

/-- The first test holds at the first point only. -/
theorem first_iff (i : grid0.Coords) : (Scalar.cmpi .ne (Scalar.extui (Scalar.cmpi .eq (BitVec.ofNat 32 (i 0).val) 0#32)) 0#32 : BitVec 1) = 1#1 ↔ (i 0).val = 0 :=
  (by decide : ∀ n : Fin 37, (Scalar.cmpi .ne (Scalar.extui (Scalar.cmpi .eq (BitVec.ofNat 32 n.val) 0#32)) 0#32 : BitVec 1) = 1#1 ↔ n.val = 0) (i 0)

/-- The last test holds at the last point only. -/
theorem last_iff (i : grid0.Coords) : k0_cond2 i = 1#1 ↔ (i 0).val = 36 :=
  (by decide : ∀ n : Fin 37, (Scalar.cmpi .ne (Scalar.extui (Scalar.cmpi .eq (BitVec.ofNat 32 n.val) 36#32)) 0#32 : BitVec 1) = 1#1 ↔ n.val = 36) (i 0)

/-- Point `t`'s one coordinate is `t`. -/
theorem coord_eq : ∀ t : Fin cfg0.N, (cfg0.grid.coords t 0).val = t.val := by decide +kernel

/-! ## The body's triple -/

/-- Any point, up to its last test: past the first point x is found dequantised. -/
theorem run48 (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8)
    (d7 : Vec F S256x512 .fp8e4m3) (f9 : Bf (F := F) c arg9) (f10 : Bf (F := F) c arg10) (f11 : Bf (F := F) c arg11) (f12 : Bf (F := F) c arg12) (f13 : Bf (F := F) c arg13)
    (h9 : (i 0).val ≠ 0 → arg9.view.read (Elt F) f9 = dq x0 x1) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ pt c arg9 f9 ∗ pt c arg10 f10 ∗ pt c arg11 f11 ∗ pt c arg12 f12 ∗ pt c arg13 f13)
      ⊢ wp frame (wpE (defs₀ (F := F)) Variants.none c none) E (k0_part48 i arg1 harg1 arg2 harg2 arg3 harg3 arg4 harg4 arg5 harg5 arg6 harg6 arg7 harg7 arg8 harg8 arg9 harg9 arg10 harg10 arg11 harg11 arg12 harg12 arg13 harg13) (fun _ =>
          iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ (∃ f, ⌜arg9.view.read (Elt F) f = dq x0 x1⌝ ∗ pt c arg9 f) ∗ (∃ f, pt c arg10 f) ∗ (∃ f, pt c arg11 f) ∗ (∃ f, pt c arg12 f) ∗ pt c arg13 (arg13.view.writes (Elt F) f13 [⟨Rect.unit (k0_off1 i) S16x256.size (k0_off1_inb i), scales x0 x1 x2 x3 x4 x5⟩]))) := by
  by_cases h : (i 0).val = 0
  · iintro ⟨H1, H2, H3, H4, H5, H6, H7, H9, H10, H11, H12, H13⟩
    iapply (run48_first c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 f9 f10 f11 f12 f13 ((first_iff i).mpr h) _)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    isplitl [H11]; · iexact H11
    isplitl [H12]; · iexact H12
    isplitl [H13]; · iexact H13
    iintro %r H
    iexact H
  · iintro ⟨H1, H2, H3, H4, H5, H6, H7, H9, H10, H11, H12, H13⟩
    iapply (run48_rest c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 f9 f10 f11 f12 f13 (fun h' => h ((first_iff i).mp h')) (h9 h) _)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    isplitl [H11]; · iexact H11
    isplitl [H12]; · iexact H12
    isplitl [H13]; · iexact H13
    iintro %r H
    iexact H

/-- What the second result's staging buffer holds after a point: at the last one the scales gathered in the scratch
    buffer `f`, transposed; before that whatever it held. -/
def last8 (i : grid0.Coords) (W : Vec F S640x256 .i32) (d : Vec F S256x592 .i8) : Vec F S256x592 .i8 :=
  if (i 0).val = 36 then k0_pay1 W else d

set_option maxHeartbeats 4000000 in
/-- The kernel's body at any point. -/
theorem sound_kernel (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) (d8 : Vec F S256x592 .i8)
    (f9 : Bf (F := F) c arg9) (f10 : Bf (F := F) c arg10) (f11 : Bf (F := F) c arg11) (f12 : Bf (F := F) c arg12) (f13 : Bf (F := F) c arg13)
    (h9 : (i 0).val ≠ 0 → arg9.view.read (Elt F) f9 = dq x0 x1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d8 ∗ pt c arg9 f9 ∗ pt c arg10 f10 ∗ pt c arg11 f11 ∗ pt c arg12 f12 ∗ pt c arg13 f13
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ owns (c : Thread nD τ) arg8 fullShare (last8 i (arg13.view.read (Elt F) (arg13.view.writes (Elt F) f13 [⟨Rect.unit (k0_off1 i) S16x256.size (k0_off1_inb i), scales x0 x1 x2 x3 x4 x5⟩])) d8)
            ∗ (∃ f, ⌜arg9.view.read (Elt F) f = dq x0 x1⌝ ∗ pt c arg9 f) ∗ (∃ f, pt c arg10 f) ∗ (∃ f, pt c arg11 f) ∗ (∃ f, pt c arg12 f) ∗ pt c arg13 (arg13.view.writes (Elt F) f13 [⟨Rect.unit (k0_off1 i) S16x256.size (k0_off1_inb i), scales x0 x1 x2 x3 x4 x5⟩])) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  by_cases h2 : k0_cond2 i = 1#1
  · rw [show last8 i (arg13.view.read (Elt F) (arg13.view.writes (Elt F) f13 [⟨Rect.unit (k0_off1 i) S16x256.size (k0_off1_inb i), scales x0 x1 x2 x3 x4 x5⟩])) d8 = k0_pay1 (arg13.view.read (Elt F) (arg13.view.writes (Elt F) f13 [⟨Rect.unit (k0_off1 i) S16x256.size (k0_off1_inb i), scales x0 x1 x2 x3 x4 x5⟩])) from if_pos ((last_iff i).mp h2)]
    rw [show (owns (c : Thread nD τ) arg8 fullShare d8 : sProp 𝕄) = iprop(∃ f, ⌜arg8.view.read (Elt F) f = d8⌝ ∗ arg8.view.loc (c : Thread nD τ) ↦[arg8.view.set]{fullShare} f) from rfl]
    iintro ⟨H1, H2, H3, H4, H5, H6, ⟨%d7, H7⟩, ⟨%f8, %hf8, H8⟩, H9, H10, H11, H12, H13, Hk⟩
    have hcut := run48 (F := F) c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 d7 f9 f10 f11 f12 f13 h9
    sl_exec
    sl_step
    unfold owns
    iapply Hk
    isplitl [Hk0_part48_1]
    · iexists _; isplitr; swap; · iexact Hk0_part48_1
      ipureintro; exact hk0_part48_0
    isplitl [Hk0_part48_3]
    · iexists _; isplitr; swap; · iexact Hk0_part48_3
      ipureintro; exact hk0_part48_2
    isplitl [Hk0_part48_5]
    · iexists _; isplitr; swap; · iexact Hk0_part48_5
      ipureintro; exact hk0_part48_4
    isplitl [Hk0_part48_7]
    · iexists _; isplitr; swap; · iexact Hk0_part48_7
      ipureintro; exact hk0_part48_6
    isplitl [Hk0_part48_9]
    · iexists _; isplitr; swap; · iexact Hk0_part48_9
      ipureintro; exact hk0_part48_8
    isplitl [Hk0_part48_11]
    · iexists _; isplitr; swap; · iexact Hk0_part48_11
      ipureintro; exact hk0_part48_10
    isplitl [Hk0_part48_13]
    · iexists _; isplitr; swap; · iexact Hk0_part48_13
      ipureintro; exact hk0_part48_12
    isplitl [H8]
    · iexists _; isplitr; swap; · iexact H8
      ipureintro
      refine (View.read_writes_eq_canon _ _ _ (View.cover_of_tiled _ S256x592.size (by rfl))).trans ?_
      rw [View.canon_unit_zero (by decide), View.readAt_eq_ld, View.ld_unit_zero (by decide)]
    isplitl [Hk0_part48_15]
    · iexists _; isplitr; swap; · iexact Hk0_part48_15
      ipureintro; exact hk0_part48_14
    isplitl [Hk0_part48_16]; · iexists _; iexact Hk0_part48_16
    isplitl [Hk0_part48_17]; · iexists _; iexact Hk0_part48_17
    isplitl [Hk0_part48_18]; · iexists _; iexact Hk0_part48_18
    iexact Hk0_part48_19
  · rw [show last8 i (arg13.view.read (Elt F) (arg13.view.writes (Elt F) f13 [⟨Rect.unit (k0_off1 i) S16x256.size (k0_off1_inb i), scales x0 x1 x2 x3 x4 x5⟩])) d8 = d8 from if_neg fun h => h2 ((last_iff i).mpr h)]
    iintro ⟨H1, H2, H3, H4, H5, H6, ⟨%d7, H7⟩, H8, H9, H10, H11, H12, H13, Hk⟩
    have hcut := run48 (F := F) c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 d7 f9 f10 f11 f12 f13 h9
    sl_exec
    sl_step
    unfold owns
    iapply Hk
    isplitl [Hk0_part48_1]
    · iexists _; isplitr; swap; · iexact Hk0_part48_1
      ipureintro; exact hk0_part48_0
    isplitl [Hk0_part48_3]
    · iexists _; isplitr; swap; · iexact Hk0_part48_3
      ipureintro; exact hk0_part48_2
    isplitl [Hk0_part48_5]
    · iexists _; isplitr; swap; · iexact Hk0_part48_5
      ipureintro; exact hk0_part48_4
    isplitl [Hk0_part48_7]
    · iexists _; isplitr; swap; · iexact Hk0_part48_7
      ipureintro; exact hk0_part48_6
    isplitl [Hk0_part48_9]
    · iexists _; isplitr; swap; · iexact Hk0_part48_9
      ipureintro; exact hk0_part48_8
    isplitl [Hk0_part48_11]
    · iexists _; isplitr; swap; · iexact Hk0_part48_11
      ipureintro; exact hk0_part48_10
    isplitl [Hk0_part48_13]
    · iexists _; isplitr; swap; · iexact Hk0_part48_13
      ipureintro; exact hk0_part48_12
    isplitl [H8]; · iexact H8
    isplitl [Hk0_part48_15]
    · iexists _; isplitr; swap; · iexact Hk0_part48_15
      ipureintro; exact hk0_part48_14
    isplitl [Hk0_part48_16]; · iexists _; iexact Hk0_part48_16
    isplitl [Hk0_part48_17]; · iexists _; iexact Hk0_part48_17
    isplitl [Hk0_part48_18]; · iexists _; iexact Hk0_part48_18
    iexact Hk0_part48_19

/-! ## The scales gathered in the scratch buffer -/

variable (m : (ℓ : Loc nD τ sig) → Buf (Elt F) ℓ) (ρ : Dev nD → PrngReg)

/-- The scales point `t` computes. -/
def scalesAt (c : Dev nD) (t : Fin cfg0.N) : IVec S16x256 32 := scales (iblk m c 0 t) (iblk m c 1 t) (iblk m c 2 t) (iblk m c 3 t) (iblk m c 4 t) (iblk m c 5 t)

/-- The codes point `t` computes. -/
def codesAt (c : Dev nD) (t : Fin cfg0.N) : FVec F S256x512 .fp8e4m3 := codes (iblk m c 0 t) (iblk m c 1 t) (iblk m c 2 t) (iblk m c 3 t) (iblk m c 4 t) (iblk m c 5 t)

/-- The scratch buffer of the scales once every point has run: sixteen rows a point. -/
def allScales (c : Dev nD) : Vec F S640x256 .i32 := fun y =>
  if h : (y 0).val < 592 then scalesAt m c ⟨(y 0).val / 16, by show _ < 37; omega⟩ (ValueIdx.ix2 ⟨(y 0).val % 16, by omega⟩ (y 1)) else 0#32

/-- The first `n` points' rows of the buffer are those. -/
def Gathered (c : Dev nD) (n : ℕ) (f : Vec F S640x256 .i32) : Prop := ∀ y : S640x256.Idx, (y 0).val < 16 * n → f y = allScales m c y

/-- One point more. -/
theorem gathered_step (c : Dev nD) (t : Fin cfg0.N) (M : Memref sig .tc .vmem S640x256 .i32) (f : Bf (F := F) c M) (inb)
    (h : Gathered m c t.val (M.view.read (Elt F) f)) :
    Gathered m c (t.val + 1) (M.view.read (Elt F) (M.view.writes (Elt F) f [⟨Rect.unit (s := S640x256) (k0_off1 (cfg0.grid.coords t)) S16x256.size inb, scalesAt m c t⟩])) := by
  have ht : t.val < 37 := t.isLt
  have o0 : k0_off1 (cfg0.grid.coords t) 0 = 16 * t.val := by
    rw [k0_off1_eq]; show 16 * (cfg0.grid.coords t 0).val = _; rw [coord_eq]
  have o1 : k0_off1 (cfg0.grid.coords t) 1 = 0 := by rw [k0_off1_eq]; rfl
  intro y hy
  by_cases hm : y ∈ (Rect.unit (s := S640x256) (k0_off1 (cfg0.grid.coords t)) S16x256.size inb).set
  · obtain ⟨x, rfl⟩ := (Rect.unit (s := S640x256) (k0_off1 (cfg0.grid.coords t)) S16x256.size inb).exists_idx_of_mem hm
    refine (View.read_writes_cons_emb ..).trans ?_
    have e0 : (((Rect.unit (s := S640x256) (k0_off1 (cfg0.grid.coords t)) S16x256.size inb).idx x) 0).val = 16 * t.val + (x 0).val := by
      show k0_off1 (cfg0.grid.coords t) 0 + 1 * (x 0).val = _
      rw [o0]; omega
    have e1 : (((Rect.unit (s := S640x256) (k0_off1 (cfg0.grid.coords t)) S16x256.size inb).idx x) 1).val = (x 1).val := by
      show k0_off1 (cfg0.grid.coords t) 1 + 1 * (x 1).val = _
      rw [o1]; omega
    have hx : (x 0).val < 16 := (x 0).isLt
    unfold allScales
    rw [dif_pos (by rw [e0]; omega)]
    have ea : (⟨(((Rect.unit (s := S640x256) (k0_off1 (cfg0.grid.coords t)) S16x256.size inb).idx x) 0).val / 16, by show _ < 37; omega⟩ : Fin cfg0.N) = t :=
      Fin.ext (by show _ / 16 = _; omega)
    have eb : ValueIdx.ix2 (⟨(((Rect.unit (s := S640x256) (k0_off1 (cfg0.grid.coords t)) S16x256.size inb).idx x) 0).val % 16, by omega⟩ : Fin 16) (((Rect.unit (s := S640x256) (k0_off1 (cfg0.grid.coords t)) S16x256.size inb).idx x) 1) = x := by
      funext a
      match a with
      | ⟨0, _⟩ => exact Fin.ext (by show (((Rect.unit (s := S640x256) (k0_off1 (cfg0.grid.coords t)) S16x256.size inb).idx x) 0).val % 16 = (x 0).val; rw [e0]; omega)
      | ⟨1, _⟩ => exact Fin.ext e1
    exact (congrArg (scalesAt m c t) eb.symm).trans (congrFun (congrArg (scalesAt m c) ea.symm) _)
  · refine (View.read_writes_apply_of_forall_not_mem _ _ _ _ (fun p hp => ?_)).trans (h y ?_)
    · rw [List.mem_singleton.mp hp]; exact hm
    · by_contra hge
      refine hm (Rect.mem_set_unit.mpr fun a => ?_)
      match a with
      | ⟨0, _⟩ =>
        refine ⟨?_, ?_⟩
        · show k0_off1 (cfg0.grid.coords t) 0 ≤ (y 0).val; rw [o0]; omega
        · show (y 0).val < k0_off1 (cfg0.grid.coords t) 0 + 16; rw [o0]; omega
      | ⟨1, _⟩ =>
        refine ⟨?_, ?_⟩
        · show k0_off1 (cfg0.grid.coords t) 1 ≤ (y 1).val; rw [o1]; omega
        · show (y 1).val < k0_off1 (cfg0.grid.coords t) 1 + 256; rw [o1]; have : (y 1).val < 256 := (y 1).isLt; omega

/-- The store of the second result reads the first 592 rows only. -/
theorem pay1_congr (W W' : Vec F S640x256 .i32) (h : ∀ y : S640x256.Idx, (y 0).val < 592 → W y = W' y) : k0_pay1 (F := F) W = k0_pay1 W' := by
  funext y
  have key : ∀ V : Vec F S640x256 .i32, k0_pay1 V y = (V (ValueIdx.ix2 ((y 1).castLE (show 592 ≤ 640 by decide)) (y 0))).setWidth 8 := by
    intro V
    unfold k0_pay1
    refine congrArg (BitVec.setWidth 8) ((transpose_apply [1, 0] V _ _ (ValueIdx.ix2 ((y 1).castLE (show 592 ≤ 640 by decide)) (y 0)) ?_))
    intro b
    match b with
    | ⟨0, _⟩ => show (y 0).val = 0 + (y 0).val; omega
    | ⟨1, _⟩ => show (y 1).val = 0 + (y 1).val; omega
  rw [key, key, h _ (y 1).isLt]

/-! ## The pipeline's proof data -/

/-- What holds before point `n`: x dequantised in its scratch buffer from the second point on, the scales of the points
    before `n` in theirs, the other scratch buffers and the generator's register at anything. -/
def Inv (c : Dev nD) (n : ℕ) : sProp 𝕄 :=
  iprop((∃ f, ⌜∀ s : Fin cfg0.N, n ≠ 0 → (Memref.whole cc0_scratch0 : Memref sig .tc .vmem S256x3584 .bf16).view.read (Elt F) f = dq (iblk m c 0 s) (iblk m c 1 s)⌝ ∗ pt c (Memref.whole cc0_scratch0 : Memref sig .tc .vmem S256x3584 .bf16) f)
    ∗ (∃ f, pt c (Memref.whole cc0_scratch1 : Memref sig .tc .vmem S128x128 .i32) f) ∗ (∃ f, pt c (Memref.whole cc0_scratch2 : Memref sig .tc .vmem S256x128 .i32) f) ∗ (∃ f, pt c (Memref.whole cc0_scratch3 : Memref sig .tc .vmem S512x3584 .bf16) f)
    ∗ (∃ f, ⌜Gathered m c n ((Memref.whole cc0_scratch4 : Memref sig .tc .vmem S640x256 .i32).view.read (Elt F) f)⌝ ∗ pt c (Memref.whole cc0_scratch4 : Memref sig .tc .vmem S640x256 .i32) f)
    ∗ ∃ r, prngReg c r)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, _⟩ => k0_pay1 (allScales m c)
  Φ t := Inv m c t.val
  q _ := fullShare
  owed _ := 0

/-- The proof data's arrays are the contents the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t := by dsimp only [dats]
theorem after0_7 (c : Dev nD) (t : Fin cfg0.N) : (dats m 0 c).after 7 t = k0_pay1 (allScales m c) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The first two windows' block is one block, at every point. -/
theorem iblk0_const (c : Dev nD) (t s : Fin cfg0.N) : (iblk m c 0 t : Vec F S256x3584 .fp8e4m3) = iblk m c 0 s := by
  rfl
theorem iblk1_const (c : Dev nD) (t s : Fin cfg0.N) : (iblk m c 1 t : Vec F S256x112 .i8) = iblk m c 1 s := by
  rfl

/-! ## The body obligation, at a generic point -/

/-- What the second result's staging buffer is at after point `t`: told at the last point only. -/
def left7 (c : Dev nD) (t : Fin cfg0.N) : sProp 𝕄 :=
  match cfg0.idle 7 (cfg0.grid.coords t) with
  | true =>
    match (cfg0.win 7).flush t with
    | false => iprop(∃ d, owns (c : Thread nD τ) ((cfg0.win 7).stage (cfg0.slots t 7)) fullShare ((dats m 0 c).before 7 t d))
    | true => owns (c : Thread nD τ) ((cfg0.win 7).stage (cfg0.slots t 7)) fullShare ((dats m 0 c).after 7 t)
  | false => owns (c : Thread nD τ) ((cfg0.win 7).stage (cfg0.slots t 7)) fullShare ((dats m 0 c).after 7 t)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ left7 m c t)

theorem phi_castSucc (c : Dev nD) (t : Fin cfg0.N) : (dats m 0 c).Φ t.castSucc = Inv m c t.val :=
  Pipeline.Dat.Φ_castSucc (fun n _ => Inv m c n) t

theorem at_succ {α : Sort _} {N : ℕ} (S : ℕ → α) (t : Fin N) : S t.succ.val = S (t.val + 1) := rfl

theorem phi_succ (c : Dev nD) (t : Fin cfg0.N) : (dats m 0 c).Φ t.succ = Inv m c (t.val + 1) := at_succ (Inv m c) t

/-- At the last point the buffer holds the gathered scales, transposed; before it, what it held is enough. -/
theorem left7_of (c : Dev nD) (t : Fin cfg0.N) (W : Vec F S640x256 .i32) (hW : Gathered m c (t.val + 1) W) (d) :
    owns (c : Thread nD τ) (st0_7 t) fullShare (last8 (cfg0.grid.coords t) W ((dats m 0 c).before 7 t d)) ⊢ left7 m c t := by
  unfold left7
  by_cases h : t.val = 36
  · have hi : cfg0.idle 7 (cfg0.grid.coords t) = false := by
      show (!(k0_cond2 (cfg0.grid.coords t) == 1#1)) = false
      rw [(last_iff _).mpr ((coord_eq t).trans h)]; rfl
    rw [hi]
    have e : last8 (cfg0.grid.coords t) W ((dats m 0 c).before 7 t d) = (dats m 0 c).after 7 t := by
      rw [after0_7]
      exact (if_pos ((coord_eq t).trans h)).trans (pay1_congr _ _ fun y hy => hW y (by rw [h]; omega))
    rw [e]
  · have hi : cfg0.idle 7 (cfg0.grid.coords t) = true := by
      show (!(k0_cond2 (cfg0.grid.coords t) == 1#1)) = true
      have : ¬ k0_cond2 (cfg0.grid.coords t) = 1#1 := fun h' => h ((coord_eq t).symm.trans ((last_iff _).mp h'))
      simp [this]
    have hf : (cfg0.win 7).flush t = false := by
      have ht : t.val < 37 := t.isLt
      have := mt (flush0_7 t).mp (by omega)
      simpa using this
    rw [hi, hf]
    rw [show last8 (cfg0.grid.coords t) W ((dats m 0 c).before 7 t d) = (dats m 0 c).before 7 t d from if_neg fun h' => h ((coord_eq t).symm.trans h')]
    iintro H
    iexists d
    iexact H

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [phi_castSucc, phi_succ, show (dats m 0 c).owesAt () t.succ = (dats m 0 c).owesAt () t.castSucc from rfl,
    after0_0, after0_1, after0_2, after0_3, after0_4, after0_5, after0_6]
  unfold Inv
  iintro ⟨⟨⟨%f9, %h9, H9⟩, ⟨%f10, H10⟩, ⟨%f11, H11⟩, ⟨%f12, H12⟩, ⟨%f13, %h13, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (cfg0.grid.coords t) _ _ _ _ _ _ _ _ _ _ _ _ _ _ _ _ _ _ _ _ _ _ _ _ _ _ (iblk m c 0 t) (iblk m c 1 t) (iblk m c 2 t) (iblk m c 3 t) (iblk m c 4 t) (iblk m c 5 t) _ f9 f10 f11 f12 f13 (fun h => h9 t (fun h' => h ((coord_eq t).trans h'))) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H9]; · iexact H9
  isplitl [H10]; · iexact H10
  isplitl [H11]; · iexact H11
  isplitl [H12]; · iexact H12
  isplitl [H13]; · iexact H13
  iintro ⟨H0, H1, H2, H3, H4, H5, H6, H7, ⟨%g9, %k9, H9⟩, ⟨%g10, H10⟩, ⟨%g11, H11⟩, ⟨%g12, H12⟩, H13⟩
  have k13 := gathered_step m c t (Memref.whole cc0_scratch4 : Memref sig .tc .vmem S640x256 .i32) f13 (k0_off1_inb _) h13
  isplitl [H9 H10 H11 H12 H13 Hr]
  · isplitl [H9]
    · iexists g9; isplitr
      · ipureintro; exact fun s _ => k9.trans (by rw [iblk0_const m c t s, iblk1_const m c t s])
      iexact H9
    isplitl [H10]; · iexists g10; iexact H10
    isplitl [H11]; · iexists g11; iexact H11
    isplitl [H12]; · iexists g12; iexact H12
    isplitl [H13]
    · iexists _; isplitr
      swap; · iexact H13
      ipureintro; exact k13
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (left7_of m c t _ k13 d7)
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch buffers at anything are enough to begin, -/
theorem inv_in (c : Dev nD) : Pipeline.ΦA spec0 c ⊢ (dats m 0 c).Φ 0 := by
  show _ ⊢ Inv m c 0
  unfold Pipeline.ΦA Inv
  rw [scopedRest0_eq]
  iintro ⟨⟨⟨%f9, H9⟩, ⟨%f10, H10⟩, ⟨%f11, H11⟩, ⟨%f12, H12⟩, ⟨%f13, H13⟩⟩, Hr⟩
  isplitl [H9]
  · iexists f9; isplitr
    · ipureintro; exact fun _ h => absurd rfl h
    iexact H9
  isplitl [H10]; · iexists f10; iexact H10
  isplitl [H11]; · iexists f11; iexact H11
  isplitl [H12]; · iexists f12; iexact H12
  isplitl [H13]
  · iexists f13; isplitr
    · ipureintro; exact fun y hy => absurd hy (by omega)
    iexact H13
  iexact Hr

/-- and are given back at the end. -/
theorem inv_out (c : Dev nD) : (dats m 0 c).Φ (Fin.last cfg0.N) ⊢ Pipeline.ΦA spec0 c := by
  show Inv m c cfg0.N ⊢ _
  unfold Pipeline.ΦA Inv
  rw [scopedRest0_eq]
  iintro ⟨⟨%f9, -, H9⟩, ⟨%f10, H10⟩, ⟨%f11, H11⟩, ⟨%f12, H12⟩, ⟨%f13, -, H13⟩, Hr⟩
  isplitr [Hr]
  · isplitl [H9]; · iexists f9; iexact H9
    isplitl [H10]; · iexists f10; iexact H10
    isplitl [H11]; · iexists f11; iexact H11
    isplitl [H12]; · iexists f12; iexact H12
    iexists f13; iexact H13
  iexact Hr

set_option backward.isDefEq.respectTransparency.types false in
set_option maxHeartbeats 800000 in
/-- The launch: every run ends, with every array of the pipeline at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.BodyKernelIdeal.lean ====
/-
  The kernel's body, run once over whole staging buffers and its five scratch buffers: what one grid point leaves.

  A point dequantises its 512 rows of each weight into the scratch weight buffer, tile by tile (`Cert.Mx.dq`), multiplies
  them with the dequantised x (which the first point leaves in a scratch buffer and every later point finds there),
  applies the gate, quantises by groups of 32 (`codes`, `scales`), stores the codes into the point's block of the
  first result and the scales into the point's sixteen rows of a scratch buffer. The last point stores that scratch
  buffer, transposed, into the second result.
-/
module

public import proofs.«01_k».proof.Proof.Gen.KernelIdeal.Frame
public import proofs.«01_k».proof.Proof.Gen.KernelIdeal.Skeleton
public import proofs.«01_k».proof.Proof.Dequant
public import Idealize.ShloMosaic.Lib.Tactic

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Mx

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## What a point computes -/

/-- The gate's product of a point: the weight's 512 rows times the dequantised x. -/
def gateOf (X : FVec F S256x3584 .bf16) (w : Vec F S512x3584 .fp8e4m3) (s : Vec F S512x112 .i8) : FVec F S512x256 .f32 :=
  k0_pay94 (dq w s) X

/-- The gated product, its rows in groups of 32. -/
def hid (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : FVec F S16x32x256 .f32 :=
  k0_pay140 (gateOf (dq x0 x1) x2 x3) (dq x4 x5) (dq x0 x1)

/-- The largest magnitude of each group. -/
def amax (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : FVec F S16x1x256 .f32 :=
  k0_pay141 (gateOf (dq x0 x1) x2 x3) (dq x4 x5) (dq x0 x1)

/-- The exponent of each group, from the largest magnitude `a` of it. -/
def expo (a : FVec F S16x1x256 .f32) : IVec S16x1x256 32 :=
  k0_pay147 (k0_pay142 a (Scalar.ofBits .f32 0x3B124925#32)) (k0_pay143 a (Scalar.ofBits .f32 0x3B124925#32))
    (k0_pay144 a (Scalar.ofBits .f32 0x3B124925#32)) (k0_pay145 a (Scalar.ofBits .f32 0x3B124925#32)) k0_pay146

/-- The groups scaled. -/
def scaled (h : FVec F S16x32x256 .f32) (a : FVec F S16x1x256 .f32) : FVec F S16x32x256 .f32 :=
  k0_pay148 h (k0_pay142 a (Scalar.ofBits .f32 0x3B124925#32)) (k0_pay143 a (Scalar.ofBits .f32 0x3B124925#32))
    (k0_pay144 a (Scalar.ofBits .f32 0x3B124925#32)) (k0_pay145 a (Scalar.ofBits .f32 0x3B124925#32)) k0_pay146

/-- The codes a point stores: its block of the first result. -/
def codes (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : FVec F S256x512 .fp8e4m3 :=
  k0_pay149 (scaled (hid x0 x1 x2 x3 x4 x5) (amax x0 x1 x2 x3 x4 x5)) (Scalar.ofBits .f32 0xC3E00000#32) (Scalar.ofBits .f32 0x43E00000#32)

/-- The biased exponents a point stores: its sixteen rows of the scratch buffer of the scales. -/
def scales (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) : IVec S16x256 32 :=
  k0_pay150 (expo (amax x0 x1 x2 x3 x4 x5))

/-! ## The scratch weight buffer, tile by tile -/

/-- One more tile of 128 columns, the contents below it already those of `G`. -/
theorem canon_tile_step {S : Shape} {e : EltTy} (hr : S.rank = 2) (G : S.Idx → Elt F e) (off : Fin S.rank → ℕ) (size : Fin S.rank → ℕ)
    (inb : ∀ a, off a + size a ≤ S.size a) (P : (⟨S.rank, size⟩ : Shape).Idx → Elt F e) (L : List (View.Piece (Elt F) S e)) (B : ℕ)
    (h0 : off ⟨0, by omega⟩ = 0) (hs0 : size ⟨0, by omega⟩ = S.size ⟨0, by omega⟩) (hB : B = off ⟨1, by omega⟩ + size ⟨1, by omega⟩)
    (hP : ∀ x, P x = G ((Rect.unit off size inb).emb x))
    (hL : ∀ y : S.Idx, (y ⟨1, by omega⟩).val < off ⟨1, by omega⟩ → View.canon L y = G y) :
    ∀ y : S.Idx, (y ⟨1, by omega⟩).val < B → View.canon ((⟨Rect.unit off size inb, P⟩ : View.Piece (Elt F) S e) :: L) y = G y := by
  intro y hy
  by_cases hm : y ∈ (Rect.unit off size inb).set
  · obtain ⟨x, rfl⟩ := (Rect.unit off size inb).exists_idx_of_mem hm
    exact (View.canon_cons_emb (Rect.unit off size inb) P L x).trans (hP x)
  · rw [View.canon_cons_of_not_mem _ _ hm]
    refine hL y ?_
    by_contra hge
    refine hm (Rect.mem_set_unit.mpr fun a => ?_)
    obtain ⟨a, ha⟩ := a
    rcases (show a = 0 ∨ a = 1 by omega) with rfl | rfl
    · rw [h0, hs0]; have := (y ⟨0, by omega⟩).isLt; omega
    · omega

/-- A load of the words after the groups' columns are stored reads the stored words there. -/
theorem words_read {R : ℕ} {sg : RefSig} {κ : Kind} {sp : Space} (v : View sg κ sp (Sh R 128) .i32) (f : v.ty.Contents (Elt F))
    (inb) (inb') (pay : IVec (Sh R 112) 32) (L : List (View.Piece (Elt F) (Sh R 128) .i32)) (r : Fin R) (k : Fin 112) :
    v.readAt (Elt F) (Rect.unit (s := Sh R 128) ![0, 0] ![R, 128] inb).toLoadRect
      (v.writes (Elt F) f (⟨Rect.unit (s := Sh R 128) ![0, 0] ![R, 112] inb', pay⟩ :: L)) (ValueIdx.ix2 r (k.castLE (by decide)))
      = pay (ValueIdx.ix2 r k) := by
  rw [View.readAt_eq_ld]
  show v.read (Elt F) _ _ = _
  have e : (Rect.unit (s := Sh R 128) ![0, 0] ![R, 128] inb).emb (ValueIdx.ix2 r (k.castLE (by decide)))
      = (Rect.unit (s := Sh R 128) ![0, 0] ![R, 112] inb').emb (ValueIdx.ix2 r k) := by
    funext a; apply Fin.ext
    match a with
    | ⟨0, _⟩ => rfl
    | ⟨1, _⟩ => rfl
  exact (congrArg _ e).trans (View.read_writes_cons_emb ..)

/-- A load of the whole buffer after covering stores, the contents known column by column. -/
theorem whole_read {sg : RefSig} {κ : Kind} {sp : Space} {S : Shape} {e : EltTy} [∀ e, Nonempty (Elt F e)] (v : View sg κ sp S e)
    (L : List (View.Piece (Elt F) S e)) {off : Fin S.rank → ℕ} (h0 : off = fun _ => 0) (inb) (hr : 1 < S.rank) (G : S.Idx → Elt F e)
    (h : ∀ y : S.Idx, (y ⟨1, hr⟩).val < S.size ⟨1, hr⟩ → View.canon L y = G y) :
    v.readCov L (Rect.unit off S.size inb).toLoadRect = G := by
  rw [View.readCov_eq_canon']
  subst h0
  funext y
  have e : (Rect.unit (s := S) (fun _ => 0) S.size inb).toLoadRect.idx y = y := by
    funext a; apply Fin.ext
    show 0 + 1 * (y a).val = _
    omega
  rw [e]
  exact h y (y _).isLt

set_option maxHeartbeats 8000000 in
set_option sl_exec.resultNames true in
/-- A point past the first, up to its last test: x is found dequantised. -/
theorem run48_rest (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8)
    (f9 : Bf (F := F) c arg9) (f10 : Bf (F := F) c arg10) (f11 : Bf (F := F) c arg11) (f12 : Bf (F := F) c arg12) (f13 : Bf (F := F) c arg13)
    (h1 : ¬ (Scalar.cmpi .ne (Scalar.extui (Scalar.cmpi .eq (BitVec.ofNat 32 (i 0).val) 0#32)) 0#32 : BitVec 1) = 1#1)
    (h9 : arg9.view.read (Elt F) f9 = dq x0 x1)
    (Q : _ → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ pt c arg9 f9 ∗ pt c arg10 f10 ∗ pt c arg11 f11 ∗ pt c arg12 f12 ∗ pt c arg13 f13
        ∗ (∀ r, iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ (∃ f, ⌜arg9.view.read (Elt F) f = dq x0 x1⌝ ∗ pt c arg9 f) ∗ (∃ f, pt c arg10 f) ∗ (∃ f, pt c arg11 f) ∗ (∃ f, pt c arg12 f)
            ∗ pt c arg13 (arg13.view.writes (Elt F) f13 [⟨Rect.unit (k0_off1 i) S16x256.size (k0_off1_inb i), scales x0 x1 x2 x3 x4 x5⟩])) -∗ Q r))
      ⊢ wp frame (wpE (defs₀ (F := F)) Variants.none c none) E (k0_part48 i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, H9, H10, H11, H12, H13, Hk⟩
  subst hf1 hf2 hf3 hf4 hf5 hf6
  sl_exec_parts
  sl_step
  have hX : arg9.view.readAt (Elt F) (Rect.unit (s := S256x3584) ![0, 0] S256x3584.size inb_S256x3584_S256x3584_0_0).toLoadRect f9 = dq (arg1.view.read (Elt F) f1) (arg2.view.read (Elt F) f2) := by
    rw [View.readAt_eq_ld, View.ld_unit_zero (by decide)]; exact h9
  have hs4 : arg4.view.readAt (Elt F) (Rect.unit (s := S512x112) ![0, 0] S512x112.size inb_S512x112_S512x112_0_0).toLoadRect f4 = arg4.view.read (Elt F) f4 := by
    rw [View.readAt_eq_ld, View.ld_unit_zero (by decide)]
  have hs6 : arg6.view.readAt (Elt F) (Rect.unit (s := S512x112) ![0, 0] S512x112.size inb_S512x112_S512x112_0_0).toLoadRect f6 = arg6.view.read (Elt F) f6 := by
    rw [View.readAt_eq_ld, View.ld_unit_zero (by decide)]
  have hW4 := fun r k => (words_read (F := F) arg11.view f11 inb_S256x128_S256x128_0_0 inb_S256x128_S256x112_0_0
    (words 512 256 bitcasts_S512x112_w16_S256x112_w32 shapeCasts_S256x112_S256x112 (arg4.view.readAt (Elt F) (Rect.unit (s := S512x112) ![0, 0] S512x112.size inb_S512x112_S512x112_0_0).toLoadRect f4)) [] r k).trans
    (congrFun (congrArg (words 512 256 bitcasts_S512x112_w16_S256x112_w32 shapeCasts_S256x112_S256x112) hs4) _)
  have hW6 := fun r k => (words_read (F := F) arg11.view f11 inb_S256x128_S256x128_0_0 inb_S256x128_S256x112_0_0
    (words 512 256 bitcasts_S512x112_w16_S256x112_w32 shapeCasts_S256x112_S256x112 (arg6.view.readAt (Elt F) (Rect.unit (s := S512x112) ![0, 0] S512x112.size inb_S512x112_S512x112_0_0).toLoadRect f6))
    (run48_rest.sl.H11_1 c arg4 f4) r k).trans
    (congrFun (congrArg (words 512 256 bitcasts_S512x112_w16_S256x112_w32 shapeCasts_S256x112_S256x112) hs6) _)
  have hg : run48_rest.sl.v573 c arg3 arg4 arg11 arg12 f11 f3 f4 = dq (arg3.view.read (Elt F) f3) (arg4.view.read (Elt F) f4) := by
    refine whole_read _ _ (by decide) _ (by decide) _ ?_
    iterate 28
      refine canon_tile_step rfl _ _ _ _ _ _ _ rfl rfl rfl (tile_piece 512 256 rfl hW4 (by decide) (by decide) (fun _ => rfl) rfl) ?_
    exact fun y hy => absurd hy (Nat.not_lt_zero _)
  have hu : run48_rest.sl.v1146 c arg3 arg4 arg5 arg6 arg11 arg12 f11 f3 f4 f5 f6 = dq (arg5.view.read (Elt F) f5) (arg6.view.read (Elt F) f6) := by
    refine whole_read _ _ (by decide) _ (by decide) _ ?_
    iterate 28
      refine canon_tile_step rfl _ _ _ _ _ _ _ rfl rfl rfl (tile_piece 512 256 rfl hW6 (by decide) (by decide) (fun _ => rfl) rfl) ?_
    exact fun y hy => absurd hy (Nat.not_lt_zero _)
  have hcodes : k0_pay149 (run48_rest.sl.v1243 c arg3 arg4 arg5 arg6 arg9 arg11 arg12 f9 f11 f3 f4 f5 f6) run48_rest.sl.cst_548 run48_rest.sl.cst_549
      = codes (arg1.view.read (Elt F) f1) (arg2.view.read (Elt F) f2) (arg3.view.read (Elt F) f3) (arg4.view.read (Elt F) f4) (arg5.view.read (Elt F) f5) (arg6.view.read (Elt F) f6) := by
    unfold codes scaled hid amax gateOf
    rw [← hg, ← hu, ← hX]
    rfl
  have hscales : k0_pay150 (run48_rest.sl.v1236 c arg3 arg4 arg5 arg6 arg9 arg11 arg12 f9 f11 f3 f4 f5 f6)
      = scales (arg1.view.read (Elt F) f1) (arg2.view.read (Elt F) f2) (arg3.view.read (Elt F) f3) (arg4.view.read (Elt F) f4) (arg5.view.read (Elt F) f5) (arg6.view.read (Elt F) f6) := by
    unfold scales expo amax gateOf
    rw [← hg, ← hu, ← hX]
    rfl
  rw [hscales]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (View.cover_of_tiled _ S256x512.size (by rfl))).trans ?_
    rw [View.canon_unit_zero (by decide)]
    exact hcodes
  isplitl [H9]
  · iexists f9; isplitr; · ipureintro; exact h9
    iexact H9
  isplitl [H10]; · iexists _; iexact H10
  isplitl [H11]; · iexists _; iexact H11
  isplitl [H12]; · iexists _; iexact H12
  iexact H13

set_option maxHeartbeats 8000000 in
set_option sl_exec.resultNames true in
/-- The first point, up to its last test: x is dequantised. -/
theorem run48_first (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8)
    (f9 : Bf (F := F) c arg9) (f10 : Bf (F := F) c arg10) (f11 : Bf (F := F) c arg11) (f12 : Bf (F := F) c arg12) (f13 : Bf (F := F) c arg13)
    (h1 : (Scalar.cmpi .ne (Scalar.extui (Scalar.cmpi .eq (BitVec.ofNat 32 (i 0).val) 0#32)) 0#32 : BitVec 1) = 1#1)
    (Q : _ → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ pt c arg9 f9 ∗ pt c arg10 f10 ∗ pt c arg11 f11 ∗ pt c arg12 f12 ∗ pt c arg13 f13
        ∗ (∀ r, iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ (∃ f, ⌜arg9.view.read (Elt F) f = dq x0 x1⌝ ∗ pt c arg9 f) ∗ (∃ f, pt c arg10 f) ∗ (∃ f, pt c arg11 f) ∗ (∃ f, pt c arg12 f)
            ∗ pt c arg13 (arg13.view.writes (Elt F) f13 [⟨Rect.unit (k0_off1 i) S16x256.size (k0_off1_inb i), scales x0 x1 x2 x3 x4 x5⟩])) -∗ Q r))
      ⊢ wp frame (wpE (defs₀ (F := F)) Variants.none c none) E (k0_part48 i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, H9, H10, H11, H12, H13, Hk⟩
  subst hf1 hf2 hf3 hf4 hf5 hf6
  sl_exec_parts
  sl_step
  have hs2 : arg2.view.readAt (Elt F) (Rect.unit (s := S256x112) ![0, 0] S256x112.size inb_S256x112_S256x112_0_0).toLoadRect f2 = arg2.view.read (Elt F) f2 := by
    rw [View.readAt_eq_ld, View.ld_unit_zero (by decide)]
  have hW2 := fun r k => (words_read (F := F) arg10.view f10 inb_S128x128_S128x128_0_0 inb_S128x128_S128x112_0_0
    (words 256 128 bitcasts_S256x112_w16_S128x112_w32 shapeCasts_S128x112_S128x112 (shapeCast S256x112 (arg2.view.readAt (Elt F) (Rect.unit (s := S256x112) ![0, 0] S256x112.size inb_S256x112_S256x112_0_0).toLoadRect f2) shapeCasts_S256x112_S256x112)) [] r k).trans
    (congrFun (congrArg (words 256 128 bitcasts_S256x112_w16_S128x112_w32 shapeCasts_S128x112_S128x112) ((shapeCast_self _ _).trans hs2)) _)
  have hx : ∀ y : S256x3584.Idx, (y 1).val < 3584 → View.canon (run48_first.sl.H9_28 c arg1 arg2 arg10 f10 f1 f2) y = dq (arg1.view.read (Elt F) f1) (arg2.view.read (Elt F) f2) y := by
    iterate 28
      refine canon_tile_step rfl _ _ _ _ _ _ _ rfl rfl rfl (tile_piece 256 128 rfl hW2 (by decide) (by decide) (fun x => congrFun (shapeCast_self _ _) x) rfl) ?_
    exact fun y hy => absurd hy (Nat.not_lt_zero _)
  have hX : arg9.view.readCov (run48_first.sl.H9_28 c arg1 arg2 arg10 f10 f1 f2) (Rect.unit (s := S256x3584) ![0, 0] S256x3584.size inb_S256x3584_S256x3584_0_0).toLoadRect = dq (arg1.view.read (Elt F) f1) (arg2.view.read (Elt F) f2) :=
    by refine whole_read _ _ (by decide) _ (by decide) _ ?_; exact hx
  have h9 : arg9.view.read (Elt F) (arg9.view.writes (Elt F) f9 (run48_first.sl.H9_28 c arg1 arg2 arg10 f10 f1 f2)) = dq (arg1.view.read (Elt F) f1) (arg2.view.read (Elt F) f2) := by
    refine (View.read_writes_eq_canon _ _ _ (View.cover_of_tiled (run48_first.sl.H9_28 c arg1 arg2 arg10 f10 f1 f2) S256x128.size (by rfl))).trans ?_
    funext y
    exact hx y (y 1).isLt
  have hs4 : arg4.view.readAt (Elt F) (Rect.unit (s := S512x112) ![0, 0] S512x112.size inb_S512x112_S512x112_0_0).toLoadRect f4 = arg4.view.read (Elt F) f4 := by
    rw [View.readAt_eq_ld, View.ld_unit_zero (by decide)]
  have hs6 : arg6.view.readAt (Elt F) (Rect.unit (s := S512x112) ![0, 0] S512x112.size inb_S512x112_S512x112_0_0).toLoadRect f6 = arg6.view.read (Elt F) f6 := by
    rw [View.readAt_eq_ld, View.ld_unit_zero (by decide)]
  have hW4 := fun r k => (words_read (F := F) arg11.view f11 inb_S256x128_S256x128_0_0 inb_S256x128_S256x112_0_0
    (words 512 256 bitcasts_S512x112_w16_S256x112_w32 shapeCasts_S256x112_S256x112 (arg4.view.readAt (Elt F) (Rect.unit (s := S512x112) ![0, 0] S512x112.size inb_S512x112_S512x112_0_0).toLoadRect f4)) [] r k).trans
    (congrFun (congrArg (words 512 256 bitcasts_S512x112_w16_S256x112_w32 shapeCasts_S256x112_S256x112) hs4) _)
  have hW6 := fun r k => (words_read (F := F) arg11.view f11 inb_S256x128_S256x128_0_0 inb_S256x128_S256x112_0_0
    (words 512 256 bitcasts_S512x112_w16_S256x112_w32 shapeCasts_S256x112_S256x112 (arg6.view.readAt (Elt F) (Rect.unit (s := S512x112) ![0, 0] S512x112.size inb_S512x112_S512x112_0_0).toLoadRect f6))
    (run48_first.sl.H11_1 c arg4 f4) r k).trans
    (congrFun (congrArg (words 512 256 bitcasts_S512x112_w16_S256x112_w32 shapeCasts_S256x112_S256x112) hs6) _)
  have hg : run48_first.sl.v573 c arg3 arg4 arg11 arg12 f11 f3 f4 = dq (arg3.view.read (Elt F) f3) (arg4.view.read (Elt F) f4) := by
    refine whole_read _ _ (by decide) _ (by decide) _ ?_
    iterate 28
      refine canon_tile_step rfl _ _ _ _ _ _ _ rfl rfl rfl (tile_piece 512 256 rfl hW4 (by decide) (by decide) (fun _ => rfl) rfl) ?_
    exact fun y hy => absurd hy (Nat.not_lt_zero _)
  have hu : run48_first.sl.v1146 c arg3 arg4 arg5 arg6 arg11 arg12 f11 f3 f4 f5 f6 = dq (arg5.view.read (Elt F) f5) (arg6.view.read (Elt F) f6) := by
    refine whole_read _ _ (by decide) _ (by decide) _ ?_
    iterate 28
      refine canon_tile_step rfl _ _ _ _ _ _ _ rfl rfl rfl (tile_piece 512 256 rfl hW6 (by decide) (by decide) (fun _ => rfl) rfl) ?_
    exact fun y hy => absurd hy (Nat.not_lt_zero _)
  have hcodes : k0_pay149 (run48_first.sl.v1243 c arg1 arg2 arg3 arg4 arg5 arg6 arg9 arg10 arg11 arg12 f10 f11 f1 f2 f3 f4 f5 f6) run48_first.sl.cst_548 run48_first.sl.cst_549
      = codes (arg1.view.read (Elt F) f1) (arg2.view.read (Elt F) f2) (arg3.view.read (Elt F) f3) (arg4.view.read (Elt F) f4) (arg5.view.read (Elt F) f5) (arg6.view.read (Elt F) f6) := by
    unfold codes scaled hid amax gateOf
    rw [← hg, ← hu, ← hX]
    rfl
  have hscales : k0_pay150 (run48_first.sl.v1236 c arg1 arg2 arg3 arg4 arg5 arg6 arg9 arg10 arg11 arg12 f10 f11 f1 f2 f3 f4 f5 f6)
      = scales (arg1.view.read (Elt F) f1) (arg2.view.read (Elt F) f2) (arg3.view.read (Elt F) f3) (arg4.view.read (Elt F) f4) (arg5.view.read (Elt F) f5) (arg6.view.read (Elt F) f6) := by
    unfold scales expo amax gateOf
    rw [← hg, ← hu, ← hX]
    rfl
  rw [hscales]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (View.cover_of_tiled _ S256x512.size (by rfl))).trans ?_
    rw [View.canon_unit_zero (by decide)]
    exact hcodes
  isplitl [H9]
  · iexists _; isplitr; · ipureintro; exact h9
    iexact H9
  isplitl [H10]; · iexists _; iexact H10
  isplitl [H11]; · iexists _; iexact H11
  isplitl [H12]; · iexists _; iexact H12
  iexact H13

end Cert.KernelIdeal.Body

end
-- ==== Proof.RunKernelIdeal.lean ====
/-
  The kernel's whole run: what each grid point finds and leaves, and what the two result arrays hold at the end.
-/
module

public import proofs.«01_k».proof.Proof.BodyKernelIdeal

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mx

variable {F : FTy → Type} [FloatOps F]

local notation "𝕄" => MT nD τ sig Unit (Elt F) ℕ (UR sig nD τ) ℕ

/-! ## The grid's tests -/

/-- The first test holds at the first point only. -/
theorem first_iff (i : grid0.Coords) : (Scalar.cmpi .ne (Scalar.extui (Scalar.cmpi .eq (BitVec.ofNat 32 (i 0).val) 0#32)) 0#32 : BitVec 1) = 1#1 ↔ (i 0).val = 0 :=
  (by decide : ∀ n : Fin 37, (Scalar.cmpi .ne (Scalar.extui (Scalar.cmpi .eq (BitVec.ofNat 32 n.val) 0#32)) 0#32 : BitVec 1) = 1#1 ↔ n.val = 0) (i 0)

/-- The last test holds at the last point only. -/
theorem last_iff (i : grid0.Coords) : k0_cond2 i = 1#1 ↔ (i 0).val = 36 :=
  (by decide : ∀ n : Fin 37, (Scalar.cmpi .ne (Scalar.extui (Scalar.cmpi .eq (BitVec.ofNat 32 n.val) 36#32)) 0#32 : BitVec 1) = 1#1 ↔ n.val = 36) (i 0)

/-- Point `t`'s one coordinate is `t`. -/
theorem coord_eq : ∀ t : Fin cfg0.N, (cfg0.grid.coords t 0).val = t.val := by decide +kernel

/-! ## The body's triple -/

/-- Any point, up to its last test: past the first point x is found dequantised. -/
theorem run48 (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8)
    (d7 : Vec F S256x512 .fp8e4m3) (f9 : Bf (F := F) c arg9) (f10 : Bf (F := F) c arg10) (f11 : Bf (F := F) c arg11) (f12 : Bf (F := F) c arg12) (f13 : Bf (F := F) c arg13)
    (h9 : (i 0).val ≠ 0 → arg9.view.read (Elt F) f9 = dq x0 x1) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ pt c arg9 f9 ∗ pt c arg10 f10 ∗ pt c arg11 f11 ∗ pt c arg12 f12 ∗ pt c arg13 f13)
      ⊢ wp frame (wpE (defs₀ (F := F)) Variants.none c none) E (k0_part48 i arg1 harg1 arg2 harg2 arg3 harg3 arg4 harg4 arg5 harg5 arg6 harg6 arg7 harg7 arg8 harg8 arg9 harg9 arg10 harg10 arg11 harg11 arg12 harg12 arg13 harg13) (fun _ =>
          iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ (∃ f, ⌜arg9.view.read (Elt F) f = dq x0 x1⌝ ∗ pt c arg9 f) ∗ (∃ f, pt c arg10 f) ∗ (∃ f, pt c arg11 f) ∗ (∃ f, pt c arg12 f) ∗ pt c arg13 (arg13.view.writes (Elt F) f13 [⟨Rect.unit (k0_off1 i) S16x256.size (k0_off1_inb i), scales x0 x1 x2 x3 x4 x5⟩]))) := by
  by_cases h : (i 0).val = 0
  · iintro ⟨H1, H2, H3, H4, H5, H6, H7, H9, H10, H11, H12, H13⟩
    iapply (run48_first c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 f9 f10 f11 f12 f13 ((first_iff i).mpr h) _)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    isplitl [H11]; · iexact H11
    isplitl [H12]; · iexact H12
    isplitl [H13]; · iexact H13
    iintro %r H
    iexact H
  · iintro ⟨H1, H2, H3, H4, H5, H6, H7, H9, H10, H11, H12, H13⟩
    iapply (run48_rest c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 f9 f10 f11 f12 f13 (fun h' => h ((first_iff i).mp h')) (h9 h) _)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    isplitl [H11]; · iexact H11
    isplitl [H12]; · iexact H12
    isplitl [H13]; · iexact H13
    iintro %r H
    iexact H

/-- What the second result's staging buffer holds after a point: at the last one the scales gathered in the scratch
    buffer `f`, transposed; before that whatever it held. -/
def last8 (i : grid0.Coords) (W : Vec F S640x256 .i32) (d : Vec F S256x592 .i8) : Vec F S256x592 .i8 :=
  if (i 0).val = 36 then k0_pay1 W else d

set_option maxHeartbeats 4000000 in
/-- The kernel's body at any point. -/
theorem sound_kernel (c : Dev nD) (E : Set ℕ) (i : grid0.Coords) (arg1 : Memref sig .tc .vmem S256x3584 .fp8e4m3) (harg1 : arg1.IsWhole) (arg2 : Memref sig .tc .vmem S256x112 .i8) (harg2 : arg2.IsWhole) (arg3 : Memref sig .tc .vmem S512x3584 .fp8e4m3) (harg3 : arg3.IsWhole) (arg4 : Memref sig .tc .vmem S512x112 .i8) (harg4 : arg4.IsWhole) (arg5 : Memref sig .tc .vmem S512x3584 .fp8e4m3) (harg5 : arg5.IsWhole) (arg6 : Memref sig .tc .vmem S512x112 .i8) (harg6 : arg6.IsWhole) (arg7 : Memref sig .tc .vmem S256x512 .fp8e4m3) (harg7 : arg7.IsWhole) (arg8 : Memref sig .tc .vmem S256x592 .i8) (harg8 : arg8.IsWhole) (arg9 : Memref sig .tc .vmem S256x3584 .bf16) (harg9 : arg9.IsWhole) (arg10 : Memref sig .tc .vmem S128x128 .i32) (harg10 : arg10.IsWhole) (arg11 : Memref sig .tc .vmem S256x128 .i32) (harg11 : arg11.IsWhole) (arg12 : Memref sig .tc .vmem S512x3584 .bf16) (harg12 : arg12.IsWhole) (arg13 : Memref sig .tc .vmem S640x256 .i32) (harg13 : arg13.IsWhole)
    (x0 : Vec F S256x3584 .fp8e4m3) (x1 : Vec F S256x112 .i8) (x2 : Vec F S512x3584 .fp8e4m3) (x3 : Vec F S512x112 .i8) (x4 : Vec F S512x3584 .fp8e4m3) (x5 : Vec F S512x112 .i8) (d8 : Vec F S256x592 .i8)
    (f9 : Bf (F := F) c arg9) (f10 : Bf (F := F) c arg10) (f11 : Bf (F := F) c arg11) (f12 : Bf (F := F) c arg12) (f13 : Bf (F := F) c arg13)
    (h9 : (i 0).val ≠ 0 → arg9.view.read (Elt F) f9 = dq x0 x1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d8 ∗ pt c arg9 f9 ∗ pt c arg10 f10 ∗ pt c arg11 f11 ∗ pt c arg12 f12 ∗ pt c arg13 f13
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codes x0 x1 x2 x3 x4 x5)
            ∗ owns (c : Thread nD τ) arg8 fullShare (last8 i (arg13.view.read (Elt F) (arg13.view.writes (Elt F) f13 [⟨Rect.unit (k0_off1 i) S16x256.size (k0_off1_inb i), scales x0 x1 x2 x3 x4 x5⟩])) d8)
            ∗ (∃ f, ⌜arg9.view.read (Elt F) f = dq x0 x1⌝ ∗ pt c arg9 f) ∗ (∃ f, pt c arg10 f) ∗ (∃ f, pt c arg11 f) ∗ (∃ f, pt c arg12 f) ∗ pt c arg13 (arg13.view.writes (Elt F) f13 [⟨Rect.unit (k0_off1 i) S16x256.size (k0_off1_inb i), scales x0 x1 x2 x3 x4 x5⟩])) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  by_cases h2 : k0_cond2 i = 1#1
  · rw [show last8 i (arg13.view.read (Elt F) (arg13.view.writes (Elt F) f13 [⟨Rect.unit (k0_off1 i) S16x256.size (k0_off1_inb i), scales x0 x1 x2 x3 x4 x5⟩])) d8 = k0_pay1 (arg13.view.read (Elt F) (arg13.view.writes (Elt F) f13 [⟨Rect.unit (k0_off1 i) S16x256.size (k0_off1_inb i), scales x0 x1 x2 x3 x4 x5⟩])) from if_pos ((last_iff i).mp h2)]
    rw [show (owns (c : Thread nD τ) arg8 fullShare d8 : sProp 𝕄) = iprop(∃ f, ⌜arg8.view.read (Elt F) f = d8⌝ ∗ arg8.view.loc (c : Thread nD τ) ↦[arg8.view.set]{fullShare} f) from rfl]
    iintro ⟨H1, H2, H3, H4, H5, H6, ⟨%d7, H7⟩, ⟨%f8, %hf8, H8⟩, H9, H10, H11, H12, H13, Hk⟩
    have hcut := run48 (F := F) c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 d7 f9 f10 f11 f12 f13 h9
    sl_exec
    sl_step
    unfold owns
    iapply Hk
    isplitl [Hk0_part48_1]
    · iexists _; isplitr; swap; · iexact Hk0_part48_1
      ipureintro; exact hk0_part48_0
    isplitl [Hk0_part48_3]
    · iexists _; isplitr; swap; · iexact Hk0_part48_3
      ipureintro; exact hk0_part48_2
    isplitl [Hk0_part48_5]
    · iexists _; isplitr; swap; · iexact Hk0_part48_5
      ipureintro; exact hk0_part48_4
    isplitl [Hk0_part48_7]
    · iexists _; isplitr; swap; · iexact Hk0_part48_7
      ipureintro; exact hk0_part48_6
    isplitl [Hk0_part48_9]
    · iexists _; isplitr; swap; · iexact Hk0_part48_9
      ipureintro; exact hk0_part48_8
    isplitl [Hk0_part48_11]
    · iexists _; isplitr; swap; · iexact Hk0_part48_11
      ipureintro; exact hk0_part48_10
    isplitl [Hk0_part48_13]
    · iexists _; isplitr; swap; · iexact Hk0_part48_13
      ipureintro; exact hk0_part48_12
    isplitl [H8]
    · iexists _; isplitr; swap; · iexact H8
      ipureintro
      refine (View.read_writes_eq_canon _ _ _ (View.cover_of_tiled _ S256x592.size (by rfl))).trans ?_
      rw [View.canon_unit_zero (by decide), View.readAt_eq_ld, View.ld_unit_zero (by decide)]
    isplitl [Hk0_part48_15]
    · iexists _; isplitr; swap; · iexact Hk0_part48_15
      ipureintro; exact hk0_part48_14
    isplitl [Hk0_part48_16]; · iexists _; iexact Hk0_part48_16
    isplitl [Hk0_part48_17]; · iexists _; iexact Hk0_part48_17
    isplitl [Hk0_part48_18]; · iexists _; iexact Hk0_part48_18
    iexact Hk0_part48_19
  · rw [show last8 i (arg13.view.read (Elt F) (arg13.view.writes (Elt F) f13 [⟨Rect.unit (k0_off1 i) S16x256.size (k0_off1_inb i), scales x0 x1 x2 x3 x4 x5⟩])) d8 = d8 from if_neg fun h => h2 ((last_iff i).mpr h)]
    iintro ⟨H1, H2, H3, H4, H5, H6, ⟨%d7, H7⟩, H8, H9, H10, H11, H12, H13, Hk⟩
    have hcut := run48 (F := F) c E i arg1 harg1 arg2 harg2 arg3 harg3 arg4 harg4 arg5 harg5 arg6 harg6 arg7 harg7 arg8 harg8 arg9 harg9 arg10 harg10 arg11 harg11 arg12 harg12 arg13 harg13 x0 x1 x2 x3 x4 x5 d7 f9 f10 f11 f12 f13 h9
    sl_exec
    sl_step
    unfold owns
    iapply Hk
    isplitl [Hk0_part48_1]
    · iexists _; isplitr; swap; · iexact Hk0_part48_1
      ipureintro; exact hk0_part48_0
    isplitl [Hk0_part48_3]
    · iexists _; isplitr; swap; · iexact Hk0_part48_3
      ipureintro; exact hk0_part48_2
    isplitl [Hk0_part48_5]
    · iexists _; isplitr; swap; · iexact Hk0_part48_5
      ipureintro; exact hk0_part48_4
    isplitl [Hk0_part48_7]
    · iexists _; isplitr; swap; · iexact Hk0_part48_7
      ipureintro; exact hk0_part48_6
    isplitl [Hk0_part48_9]
    · iexists _; isplitr; swap; · iexact Hk0_part48_9
      ipureintro; exact hk0_part48_8
    isplitl [Hk0_part48_11]
    · iexists _; isplitr; swap; · iexact Hk0_part48_11
      ipureintro; exact hk0_part48_10
    isplitl [Hk0_part48_13]
    · iexists _; isplitr; swap; · iexact Hk0_part48_13
      ipureintro; exact hk0_part48_12
    isplitl [H8]; · iexact H8
    isplitl [Hk0_part48_15]
    · iexists _; isplitr; swap; · iexact Hk0_part48_15
      ipureintro; exact hk0_part48_14
    isplitl [Hk0_part48_16]; · iexists _; iexact Hk0_part48_16
    isplitl [Hk0_part48_17]; · iexists _; iexact Hk0_part48_17
    isplitl [Hk0_part48_18]; · iexists _; iexact Hk0_part48_18
    iexact Hk0_part48_19

/-! ## The scales gathered in the scratch buffer -/

variable (m : (ℓ : Loc nD τ sig) → Buf (Elt F) ℓ) (ρ : Dev nD → PrngReg)

/-- The scales point `t` computes. -/
def scalesAt (c : Dev nD) (t : Fin cfg0.N) : IVec S16x256 32 := scales (iblk m c 0 t) (iblk m c 1 t) (iblk m c 2 t) (iblk m c 3 t) (iblk m c 4 t) (iblk m c 5 t)

/-- The codes point `t` computes. -/
def codesAt (c : Dev nD) (t : Fin cfg0.N) : FVec F S256x512 .fp8e4m3 := codes (iblk m c 0 t) (iblk m c 1 t) (iblk m c 2 t) (iblk m c 3 t) (iblk m c 4 t) (iblk m c 5 t)

/-- The scratch buffer of the scales once every point has run: sixteen rows a point. -/
def allScales (c : Dev nD) : Vec F S640x256 .i32 := fun y =>
  if h : (y 0).val < 592 then scalesAt m c ⟨(y 0).val / 16, by show _ < 37; omega⟩ (ValueIdx.ix2 ⟨(y 0).val % 16, by omega⟩ (y 1)) else 0#32

/-- The first `n` points' rows of the buffer are those. -/
def Gathered (c : Dev nD) (n : ℕ) (f : Vec F S640x256 .i32) : Prop := ∀ y : S640x256.Idx, (y 0).val < 16 * n → f y = allScales m c y

/-- One point more. -/
theorem gathered_step (c : Dev nD) (t : Fin cfg0.N) (M : Memref sig .tc .vmem S640x256 .i32) (f : Bf (F := F) c M) (inb)
    (h : Gathered m c t.val (M.view.read (Elt F) f)) :
    Gathered m c (t.val + 1) (M.view.read (Elt F) (M.view.writes (Elt F) f [⟨Rect.unit (s := S640x256) (k0_off1 (cfg0.grid.coords t)) S16x256.size inb, scalesAt m c t⟩])) := by
  have ht : t.val < 37 := t.isLt
  have o0 : k0_off1 (cfg0.grid.coords t) 0 = 16 * t.val := by
    rw [k0_off1_eq]; show 16 * (cfg0.grid.coords t 0).val = _; rw [coord_eq]
  have o1 : k0_off1 (cfg0.grid.coords t) 1 = 0 := by rw [k0_off1_eq]; rfl
  intro y hy
  by_cases hm : y ∈ (Rect.unit (s := S640x256) (k0_off1 (cfg0.grid.coords t)) S16x256.size inb).set
  · obtain ⟨x, rfl⟩ := (Rect.unit (s := S640x256) (k0_off1 (cfg0.grid.coords t)) S16x256.size inb).exists_idx_of_mem hm
    refine (View.read_writes_cons_emb ..).trans ?_
    have e0 : (((Rect.unit (s := S640x256) (k0_off1 (cfg0.grid.coords t)) S16x256.size inb).idx x) 0).val = 16 * t.val + (x 0).val := by
      show k0_off1 (cfg0.grid.coords t) 0 + 1 * (x 0).val = _
      rw [o0]; omega
    have e1 : (((Rect.unit (s := S640x256) (k0_off1 (cfg0.grid.coords t)) S16x256.size inb).idx x) 1).val = (x 1).val := by
      show k0_off1 (cfg0.grid.coords t) 1 + 1 * (x 1).val = _
      rw [o1]; omega
    have hx : (x 0).val < 16 := (x 0).isLt
    unfold allScales
    rw [dif_pos (by rw [e0]; omega)]
    have ea : (⟨(((Rect.unit (s := S640x256) (k0_off1 (cfg0.grid.coords t)) S16x256.size inb).idx x) 0).val / 16, by show _ < 37; omega⟩ : Fin cfg0.N) = t :=
      Fin.ext (by show _ / 16 = _; omega)
    have eb : ValueIdx.ix2 (⟨(((Rect.unit (s := S640x256) (k0_off1 (cfg0.grid.coords t)) S16x256.size inb).idx x) 0).val % 16, by omega⟩ : Fin 16) (((Rect.unit (s := S640x256) (k0_off1 (cfg0.grid.coords t)) S16x256.size inb).idx x) 1) = x := by
      funext a
      match a with
      | ⟨0, _⟩ => exact Fin.ext (by show (((Rect.unit (s := S640x256) (k0_off1 (cfg0.grid.coords t)) S16x256.size inb).idx x) 0).val % 16 = (x 0).val; rw [e0]; omega)
      | ⟨1, _⟩ => exact Fin.ext e1
    exact (congrArg (scalesAt m c t) eb.symm).trans (congrFun (congrArg (scalesAt m c) ea.symm) _)
  · refine (View.read_writes_apply_of_forall_not_mem _ _ _ _ (fun p hp => ?_)).trans (h y ?_)
    · rw [List.mem_singleton.mp hp]; exact hm
    · by_contra hge
      refine hm (Rect.mem_set_unit.mpr fun a => ?_)
      match a with
      | ⟨0, _⟩ =>
        refine ⟨?_, ?_⟩
        · show k0_off1 (cfg0.grid.coords t) 0 ≤ (y 0).val; rw [o0]; omega
        · show (y 0).val < k0_off1 (cfg0.grid.coords t) 0 + 16; rw [o0]; omega
      | ⟨1, _⟩ =>
        refine ⟨?_, ?_⟩
        · show k0_off1 (cfg0.grid.coords t) 1 ≤ (y 1).val; rw [o1]; omega
        · show (y 1).val < k0_off1 (cfg0.grid.coords t) 1 + 256; rw [o1]; have : (y 1).val < 256 := (y 1).isLt; omega

/-- The store of the second result reads the first 592 rows only. -/
theorem pay1_congr (W W' : Vec F S640x256 .i32) (h : ∀ y : S640x256.Idx, (y 0).val < 592 → W y = W' y) : k0_pay1 (F := F) W = k0_pay1 W' := by
  funext y
  have key : ∀ V : Vec F S640x256 .i32, k0_pay1 V y = (V (ValueIdx.ix2 ((y 1).castLE (show 592 ≤ 640 by decide)) (y 0))).setWidth 8 := by
    intro V
    unfold k0_pay1
    refine congrArg (BitVec.setWidth 8) ((transpose_apply [1, 0] V _ _ (ValueIdx.ix2 ((y 1).castLE (show 592 ≤ 640 by decide)) (y 0)) ?_))
    intro b
    match b with
    | ⟨0, _⟩ => show (y 0).val = 0 + (y 0).val; omega
    | ⟨1, _⟩ => show (y 1).val = 0 + (y 1).val; omega
  rw [key, key, h _ (y 1).isLt]

/-! ## The pipeline's proof data -/

/-- What holds before point `n`: x dequantised in its scratch buffer from the second point on, the scales of the points
    before `n` in theirs, the other scratch buffers and the generator's register at anything. -/
def Inv (c : Dev nD) (n : ℕ) : sProp 𝕄 :=
  iprop((∃ f, ⌜∀ s : Fin cfg0.N, n ≠ 0 → (Memref.whole cc0_scratch0 : Memref sig .tc .vmem S256x3584 .bf16).view.read (Elt F) f = dq (iblk m c 0 s) (iblk m c 1 s)⌝ ∗ pt c (Memref.whole cc0_scratch0 : Memref sig .tc .vmem S256x3584 .bf16) f)
    ∗ (∃ f, pt c (Memref.whole cc0_scratch1 : Memref sig .tc .vmem S128x128 .i32) f) ∗ (∃ f, pt c (Memref.whole cc0_scratch2 : Memref sig .tc .vmem S256x128 .i32) f) ∗ (∃ f, pt c (Memref.whole cc0_scratch3 : Memref sig .tc .vmem S512x3584 .bf16) f)
    ∗ (∃ f, ⌜Gathered m c n ((Memref.whole cc0_scratch4 : Memref sig .tc .vmem S640x256 .i32).view.read (Elt F) f)⌝ ∗ pt c (Memref.whole cc0_scratch4 : Memref sig .tc .vmem S640x256 .i32) f)
    ∗ ∃ r, prngReg c r)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, _⟩ => k0_pay1 (allScales m c)
  Φ t := Inv m c t.val
  q _ := fullShare
  owed _ := 0

/-- The proof data's arrays are the contents the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t := by dsimp only [dats]
theorem after0_7 (c : Dev nD) (t : Fin cfg0.N) : (dats m 0 c).after 7 t = k0_pay1 (allScales m c) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The first two windows' block is one block, at every point. -/
theorem iblk0_const (c : Dev nD) (t s : Fin cfg0.N) : (iblk m c 0 t : Vec F S256x3584 .fp8e4m3) = iblk m c 0 s := by
  rfl
theorem iblk1_const (c : Dev nD) (t s : Fin cfg0.N) : (iblk m c 1 t : Vec F S256x112 .i8) = iblk m c 1 s := by
  rfl

/-! ## The body obligation, at a generic point -/

/-- What the second result's staging buffer is at after point `t`: told at the last point only. -/
def left7 (c : Dev nD) (t : Fin cfg0.N) : sProp 𝕄 :=
  match cfg0.idle 7 (cfg0.grid.coords t) with
  | true =>
    match (cfg0.win 7).flush t with
    | false => iprop(∃ d, owns (c : Thread nD τ) ((cfg0.win 7).stage (cfg0.slots t 7)) fullShare ((dats m 0 c).before 7 t d))
    | true => owns (c : Thread nD τ) ((cfg0.win 7).stage (cfg0.slots t 7)) fullShare ((dats m 0 c).after 7 t)
  | false => owns (c : Thread nD τ) ((cfg0.win 7).stage (cfg0.slots t 7)) fullShare ((dats m 0 c).after 7 t)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ left7 m c t)

theorem phi_castSucc (c : Dev nD) (t : Fin cfg0.N) : (dats m 0 c).Φ t.castSucc = Inv m c t.val :=
  Pipeline.Dat.Φ_castSucc (fun n _ => Inv m c n) t

theorem at_succ {α : Sort _} {N : ℕ} (S : ℕ → α) (t : Fin N) : S t.succ.val = S (t.val + 1) := rfl

theorem phi_succ (c : Dev nD) (t : Fin cfg0.N) : (dats m 0 c).Φ t.succ = Inv m c (t.val + 1) := at_succ (Inv m c) t

/-- At the last point the buffer holds the gathered scales, transposed; before it, what it held is enough. -/
theorem left7_of (c : Dev nD) (t : Fin cfg0.N) (W : Vec F S640x256 .i32) (hW : Gathered m c (t.val + 1) W) (d) :
    owns (c : Thread nD τ) (st0_7 t) fullShare (last8 (cfg0.grid.coords t) W ((dats m 0 c).before 7 t d)) ⊢ left7 m c t := by
  unfold left7
  by_cases h : t.val = 36
  · have hi : cfg0.idle 7 (cfg0.grid.coords t) = false := by
      show (!(k0_cond2 (cfg0.grid.coords t) == 1#1)) = false
      rw [(last_iff _).mpr ((coord_eq t).trans h)]; rfl
    rw [hi]
    have e : last8 (cfg0.grid.coords t) W ((dats m 0 c).before 7 t d) = (dats m 0 c).after 7 t := by
      rw [after0_7]
      exact (if_pos ((coord_eq t).trans h)).trans (pay1_congr _ _ fun y hy => hW y (by rw [h]; omega))
    rw [e]
  · have hi : cfg0.idle 7 (cfg0.grid.coords t) = true := by
      show (!(k0_cond2 (cfg0.grid.coords t) == 1#1)) = true
      have : ¬ k0_cond2 (cfg0.grid.coords t) = 1#1 := fun h' => h ((coord_eq t).symm.trans ((last_iff _).mp h'))
      simp [this]
    have hf : (cfg0.win 7).flush t = false := by
      have ht : t.val < 37 := t.isLt
      have := mt (flush0_7 t).mp (by omega)
      simpa using this
    rw [hi, hf]
    rw [show last8 (cfg0.grid.coords t) W ((dats m 0 c).before 7 t d) = (dats m 0 c).before 7 t d from if_neg fun h' => h ((coord_eq t).symm.trans h')]
    iintro H
    iexists d
    iexact H

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [phi_castSucc, phi_succ, show (dats m 0 c).owesAt () t.succ = (dats m 0 c).owesAt () t.castSucc from rfl,
    after0_0, after0_1, after0_2, after0_3, after0_4, after0_5, after0_6]
  unfold Inv
  iintro ⟨⟨⟨%f9, %h9, H9⟩, ⟨%f10, H10⟩, ⟨%f11, H11⟩, ⟨%f12, H12⟩, ⟨%f13, %h13, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (cfg0.grid.coords t) _ _ _ _ _ _ _ _ _ _ _ _ _ _ _ _ _ _ _ _ _ _ _ _ _ _ (iblk m c 0 t) (iblk m c 1 t) (iblk m c 2 t) (iblk m c 3 t) (iblk m c 4 t) (iblk m c 5 t) _ f9 f10 f11 f12 f13 (fun h => h9 t (fun h' => h ((coord_eq t).trans h'))) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H9]; · iexact H9
  isplitl [H10]; · iexact H10
  isplitl [H11]; · iexact H11
  isplitl [H12]; · iexact H12
  isplitl [H13]; · iexact H13
  iintro ⟨H0, H1, H2, H3, H4, H5, H6, H7, ⟨%g9, %k9, H9⟩, ⟨%g10, H10⟩, ⟨%g11, H11⟩, ⟨%g12, H12⟩, H13⟩
  have k13 := gathered_step m c t (Memref.whole cc0_scratch4 : Memref sig .tc .vmem S640x256 .i32) f13 (k0_off1_inb _) h13
  isplitl [H9 H10 H11 H12 H13 Hr]
  · isplitl [H9]
    · iexists g9; isplitr
      · ipureintro; exact fun s _ => k9.trans (by rw [iblk0_const m c t s, iblk1_const m c t s])
      iexact H9
    isplitl [H10]; · iexists g10; iexact H10
    isplitl [H11]; · iexists g11; iexact H11
    isplitl [H12]; · iexists g12; iexact H12
    isplitl [H13]
    · iexists _; isplitr
      swap; · iexact H13
      ipureintro; exact k13
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (left7_of m c t _ k13 d7)
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch buffers at anything are enough to begin, -/
theorem inv_in (c : Dev nD) : Pipeline.ΦA spec0 c ⊢ (dats m 0 c).Φ 0 := by
  show _ ⊢ Inv m c 0
  unfold Pipeline.ΦA Inv
  rw [scopedRest0_eq]
  iintro ⟨⟨⟨%f9, H9⟩, ⟨%f10, H10⟩, ⟨%f11, H11⟩, ⟨%f12, H12⟩, ⟨%f13, H13⟩⟩, Hr⟩
  isplitl [H9]
  · iexists f9; isplitr
    · ipureintro; exact fun _ h => absurd rfl h
    iexact H9
  isplitl [H10]; · iexists f10; iexact H10
  isplitl [H11]; · iexists f11; iexact H11
  isplitl [H12]; · iexists f12; iexact H12
  isplitl [H13]
  · iexists f13; isplitr
    · ipureintro; exact fun y hy => absurd hy (by omega)
    iexact H13
  iexact Hr

/-- and are given back at the end. -/
theorem inv_out (c : Dev nD) : (dats m 0 c).Φ (Fin.last cfg0.N) ⊢ Pipeline.ΦA spec0 c := by
  show Inv m c cfg0.N ⊢ _
  unfold Pipeline.ΦA Inv
  rw [scopedRest0_eq]
  iintro ⟨⟨%f9, -, H9⟩, ⟨%f10, H10⟩, ⟨%f11, H11⟩, ⟨%f12, H12⟩, ⟨%f13, -, H13⟩, Hr⟩
  isplitr [Hr]
  · isplitl [H9]; · iexists f9; iexact H9
    isplitl [H10]; · iexists f10; iexact H10
    isplitl [H11]; · iexists f11; iexact H11
    isplitl [H12]; · iexists f12; iexact H12
    iexists f13; iexact H13
  iexact Hr

set_option backward.isDefEq.respectTransparency.types false in
set_option maxHeartbeats 800000 in
/-- The launch: every run ends, with every array of the pipeline at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Exponent.lean ====
/-
  The scales as numbers, over the extended reals. A power of two by its bits and by `exp2`; the exponent that the
  kernel finds by comparing with powers of two, and the reference's exponent, the floor of a logarithm: one number.
-/
module

public import proofs.«01_k».proof.Proof.Dequant
public import Idealize.ShloMosaic.PureOps.Ideal
public import Idealize.ShloMosaic.Lib.IdealHost
public import Mathlib.Analysis.SpecialFunctions.Log.Basic
public import Mathlib.Tactic.Linarith
public import Mathlib.Data.Nat.Find

@[expose] public section

set_option maxRecDepth 16384

noncomputable section

namespace Cert.Mx

open Idealize.ShloMosaic

/-- The float of an exponent field: the bits of `k`, moved to where float32 keeps its exponent. -/
def pow2 (k : BitVec 32) : EReal := Ideal.ofBits .f32 (IntOp.shli .vector k 23#32)

/-- The reference's `ldexp(1, n)`: zero below the normal exponents, infinity above them, else `2^n`. -/
def ldexp1 (n : BitVec 32) : EReal :=
  Scalar.select (IntOp.cmpi .slt n 4294967170#32) (Ideal.ofBits .f32 0x00000000#32)
    (Scalar.select (IntOp.cmpi .sgt n 127#32) (Ideal.ofBits .f32 0x7F800000#32) (Ideal.exp2 ((n.toInt : ℝ) : EReal)))

theorem shl_fields : ∀ k : Fin 256, ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

/-- A pattern with a zero sign and significand and a normal exponent field `k` denotes a power of two. -/
theorem ieee_pow2 (e m : ℕ) {w : ℕ} (b : BitVec w) (k : ℕ) (hs : (b.extractLsb' (e + m) 1 == 1#1) = false)
    (he : (b.extractLsb' m e).toNat = k) (hf : (b.extractLsb' 0 m).toNat = 0) (c1 : ¬ k = 2 ^ e - 1) (c2 : ¬ k = 0) :
    Ideal.ieee e m b = (((2 : ℝ) ^ ((k : ℤ) - (2 ^ (e - 1) - 1)) : ℝ) : EReal) := by
  simp only [Ideal.ieee]
  rw [hs, he, hf, if_neg c1, if_neg c2]
  refine congrArg (fun x : ℝ => (x : EReal)) ?_
  rw [if_neg Bool.false_ne_true, one_mul, add_zero, Nat.cast_pow, Nat.cast_ofNat, ← zpow_natCast, ← zpow_add₀ (by norm_num)]
  congr 1
  omega

/-- The float of a normal exponent field `k` is `2^(k-127)`. -/
theorem pow2_eq (k : ℕ) (h0 : 1 ≤ k) (h1 : k ≤ 254) : pow2 (BitVec.ofNat 32 k) = (((2 : ℝ) ^ ((k : ℤ) - 127) : ℝ) : EReal) := by
  have hk := shl_fields ⟨k, by omega⟩
  dsimp only at hk
  obtain ⟨hs, he, hf⟩ := hk
  exact (ieee_pow2 8 23 _ k hs he hf (by norm_num; omega) (by omega)).trans (by norm_num)

/-- `ldexp(1, n)` of a normal exponent. -/
theorem ldexp1_eq (n : ℤ) (h0 : -126 ≤ n) (h1 : n ≤ 127) : ldexp1 (BitVec.ofInt 32 n) = (((2 : ℝ) ^ n : ℝ) : EReal) := by
  have hn : (BitVec.ofInt 32 n).toInt = n := by rw [BitVec.toInt_ofInt]; exact Int.bmod_eq_of_le (by omega) (by omega)
  unfold ldexp1 Scalar.select IntOp.cmpi
  simp only [BitVec.slt, hn]
  have e1 : (4294967170#32 : BitVec 32).toInt = -126 := by decide
  have e2 : (127#32 : BitVec 32).toInt = 127 := by decide
  rw [e1, e2, decide_eq_false (by omega), decide_eq_false (by omega)]
  rw [if_neg (by decide), if_neg (by decide), Ideal.exp2_coe]
  congr 1
  exact Real.rpow_intCast 2 n

theorem scale_fields : ∀ k : Fin 256, ((scaleBits (BitVec.ofNat 8 k.val)).extractLsb' 15 1 == 1#1) = false
    ∧ ((scaleBits (BitVec.ofNat 8 k.val)).extractLsb' 7 8).toNat = k.val
    ∧ ((scaleBits (BitVec.ofNat 8 k.val)).extractLsb' 0 7).toNat = 0
    ∧ IntOp.subi ((BitVec.ofNat 8 k.val).setWidth 32) 127#32 = BitVec.ofInt 32 ((k.val : ℤ) - 127) := by decide +kernel

/-- The scale whose exponent field is the scale byte is the reference's `ldexp(1, byte - 127)`, of every byte. -/
theorem scale_eq (b : BitVec 8) : Ideal.ofBits .bf16 (scaleBits b) = ldexp1 (IntOp.subi (b.setWidth 32) 127#32) := by
  obtain ⟨k, hk, rfl⟩ : ∃ k : ℕ, k < 256 ∧ b = BitVec.ofNat 8 k := ⟨b.toNat, b.isLt, by simp⟩
  have h := scale_fields ⟨k, hk⟩
  dsimp only at h
  obtain ⟨hs, he, hf, hi⟩ := h
  rw [hi]
  have hie := ieee_pow2 8 7 _ k hs he hf
  simp only [Ideal.ofBits]
  by_cases c1 : k = 2 ^ 8 - 1
  · simp only [Ideal.ieee]
    rw [hs, he, hf, if_pos c1, if_pos rfl]
    subst c1
    have : Ideal.ofBits .f32 0x7F800000#32 = ⊤ := by simp [Ideal.ofBits, Ideal.ieee]
    unfold ldexp1
    rw [this]
    rfl
  by_cases c2 : k = 0
  · simp only [Ideal.ieee]
    rw [hs, he, hf, if_neg c1, if_pos c2]
    subst c2
    unfold ldexp1
    rw [Ideal.ofBits_zero_f32]
    show _ = (0 : EReal)
    simp
  rw [ldexp1_eq _ (by omega) (by norm_num at c1; omega)]
  exact (hie c1 c2).trans (by norm_num)

/-- One step of the search: the field found so far, raised by `s` if the power of two there is not above `t`. -/
def searchStep (t : EReal) (f s : BitVec 32) : BitVec 32 :=
  Scalar.select (Ideal.cmp .oge t (pow2 (IntOp.addi f s))) (IntOp.addi f s) f

/-- The exponent field of `t` by the kernel's search. -/
def searchField (t : EReal) : BitVec 32 :=
  searchStep t (searchStep t (searchStep t (searchStep t (searchStep t (searchStep t (searchStep t (searchStep t
    0#32 126#32) 63#32) 32#32) 16#32) 8#32) 4#32) 2#32) 1#32

/-- The kernel's exponent of a group, from its scaled magnitude `t`. -/
def kExpo (t : EReal) : BitVec 32 :=
  Scalar.select (Ideal.cmp .oeq t (Ideal.ofBits .f32 0x00000000#32)) 0#32 (IntOp.subi (searchField t) 126#32)

/-- A step that is at most one longer than what the later steps add up to keeps the field `K` in reach. -/
theorem searchStep_nat (t : EReal) (K : ℕ) (hK : ∀ k : ℕ, 1 ≤ k → k ≤ 252 → (pow2 (BitVec.ofNat 32 k) ≤ t ↔ k ≤ K)) (lo s rem : ℕ)
    (hs : 1 ≤ s) (hr : s ≤ rem + 1) (hb : lo + s + rem ≤ 252) (h0 : lo ≤ K) (h1 : K ≤ lo + s + rem) :
    ∃ lo', searchStep t (BitVec.ofNat 32 lo) (BitVec.ofNat 32 s) = BitVec.ofNat 32 lo' ∧ lo' ≤ K ∧ K ≤ lo' + rem ∧ lo' + rem ≤ 252 := by
  unfold searchStep Scalar.select Ideal.cmp IntOp.addi
  rw [← BitVec.ofNat_add]
  by_cases h : lo + s ≤ K
  · refine ⟨lo + s, ?_, h, by omega, by omega⟩
    rw [decide_eq_true ((hK (lo + s) (by omega) (by omega)).mpr h)]; rfl
  · refine ⟨lo, ?_, h0, by omega, by omega⟩
    rw [decide_eq_false fun h' => h ((hK (lo + s) (by omega) (by omega)).mp h')]; rfl

/-- The search finds `K`, the greatest field whose power of two is not above `t`. -/
theorem searchField_eq (t : EReal) (K : ℕ) (hK : ∀ k : ℕ, 1 ≤ k → k ≤ 252 → (pow2 (BitVec.ofNat 32 k) ≤ t ↔ k ≤ K)) (h252 : K ≤ 252) :
    searchField t = BitVec.ofNat 32 K := by
  unfold searchField
  obtain ⟨a, ea, la, ua, ba⟩ := searchStep_nat t K hK 0 126 126 (by decide) (by decide) (by decide) (by omega) (by omega)
  obtain ⟨b, eb, lb, ub, bb⟩ := searchStep_nat t K hK a 63 63 (by decide) (by decide) (by omega) (by omega) (by omega)
  obtain ⟨c, ec, lc, uc, bc⟩ := searchStep_nat t K hK b 32 31 (by decide) (by decide) (by omega) (by omega) (by omega)
  obtain ⟨d, ed, ld, ud, bd⟩ := searchStep_nat t K hK c 16 15 (by decide) (by decide) (by omega) (by omega) (by omega)
  obtain ⟨e, ee, le, ue, be⟩ := searchStep_nat t K hK d 8 7 (by decide) (by decide) (by omega) (by omega) (by omega)
  obtain ⟨f, ef, lf, uf, bf⟩ := searchStep_nat t K hK e 4 3 (by decide) (by decide) (by omega) (by omega) (by omega)
  obtain ⟨g, eg, lg, ug, bg⟩ := searchStep_nat t K hK f 2 1 (by decide) (by decide) (by omega) (by omega) (by omega)
  obtain ⟨h, eh, lh, uh, bh⟩ := searchStep_nat t K hK g 1 0 (by decide) (by decide) (by omega) (by omega) (by omega)
  rw [ea, eb, ec, ed, ee, ef, eg, eh]
  congr 1
  omega

/-- The reference's exponent before the zero test: the floor of the base-two logarithm, plus one, clipped. -/
def rExpo (t : EReal) : BitVec 32 :=
  Ideal.fptosi 32 (min (((126#32 : BitVec 32).toInt : ℝ) : EReal) (max (((4294967170#32 : BitVec 32).toInt : ℝ) : EReal)
    (Ideal.liftRound Int.floor (Ideal.div (Ideal.log t) (Ideal.log (Ideal.ofBits .f32 0x40000000#32))) + Ideal.ofBits .f32 0x3F800000#32)))

theorem ofBits_two : Ideal.ofBits .f32 0x40000000#32 = ((2 : ℝ) : EReal) := by
  have := pow2_eq 128 (by decide) (by decide)
  have h : pow2 (BitVec.ofNat 32 128) = Ideal.ofBits .f32 0x40000000#32 := by unfold pow2; congr 1
  rw [← h, this]; norm_num

theorem log_two : Ideal.log (Ideal.ofBits .f32 0x40000000#32) = ((Real.log 2 : ℝ) : EReal) := by
  rw [ofBits_two, Ideal.log_coe, if_neg (by norm_num)]

theorem fptosi_int (n : ℤ) (h0 : -126 ≤ n) (h1 : n ≤ 126) : Ideal.fptosi 32 (((n : ℝ) : ℝ) : EReal) = BitVec.ofInt 32 n := by
  unfold Ideal.fptosi
  rw [Ideal.toIntClamped_coe]
  congr 1
  rw [Int.floor_intCast, Int.ceil_intCast, ite_self]
  norm_num
  omega

theorem clip_int (n : ℤ) : min (((126#32 : BitVec 32).toInt : ℝ) : EReal) (max (((4294967170#32 : BitVec 32).toInt : ℝ) : EReal) (((n : ℝ) : ℝ) : EReal))
    = (((min 126 (max (-126) n) : ℤ) : ℝ) : EReal) := by
  have e1 : (4294967170#32 : BitVec 32).toInt = -126 := by decide
  have e2 : (126#32 : BitVec 32).toInt = 126 := by decide
  rw [e1, e2]
  push_cast
  rw [EReal.coe_strictMono.monotone.map_min, EReal.coe_strictMono.monotone.map_max]
  rfl

/-- The reference's exponent at a positive real. -/
theorem rExpo_coe (r : ℝ) (hr : 0 < r) : rExpo (r : EReal) = BitVec.ofInt 32 (min 126 (max (-126) (⌊Real.log r * (Real.log 2)⁻¹⌋ + 1))) := by
  unfold rExpo
  have hl2 : Real.log 2 ≠ 0 := (Real.log_pos (by norm_num)).ne'
  rw [log_two, Ideal.log_coe, if_neg (not_le.mpr hr), Ideal.div_coe hl2, ← EReal.coe_mul, Ideal.liftRound_coe, Ideal.ofBits_one_f32, one_div,
    ← EReal.coe_one, ← EReal.coe_add]
  have := clip_int (⌊Real.log r * (Real.log 2)⁻¹⌋ + 1)
  push_cast at this ⊢
  rw [this]
  have := fptosi_int (min 126 (max (-126) (⌊Real.log r * (Real.log 2)⁻¹⌋ + 1))) (by omega) (by omega)
  push_cast at this
  rw [this]

theorem rExpo_top : rExpo ⊤ = 126#32 := by
  unfold rExpo
  rw [log_two, Ideal.log_top, Ideal.div_coe (Real.log_pos (by norm_num)).ne',
    EReal.top_mul_coe_of_pos (by have := Real.log_pos (x := 2) (by norm_num); positivity), Ideal.liftRound_top,
    Ideal.ofBits_one_f32, EReal.top_add_of_ne_bot (by exact EReal.coe_ne_bot 1), max_top_right, min_top_right]
  have := fptosi_int 126 (by decide) (by decide)
  exact this

theorem rExpo_of_log_bot (t : EReal) (h : Ideal.log t = ⊥) : rExpo t = BitVec.ofInt 32 (-126) := by
  unfold rExpo
  rw [log_two, h, Ideal.div_coe (Real.log_pos (by norm_num)).ne',
    EReal.bot_mul_coe_of_pos (by have := Real.log_pos (x := 2) (by norm_num); positivity), Ideal.liftRound_bot,
    EReal.bot_add, max_bot_right]
  have := fptosi_int (-126) (by decide) (by decide)
  rw [← this]
  congr 1
  have e1 : (4294967170#32 : BitVec 32).toInt = -126 := by decide
  have e2 : (126#32 : BitVec 32).toInt = 126 := by decide
  rw [e1, e2]
  refine min_eq_right (EReal.coe_le_coe_iff.mpr ?_)
  norm_num

/-- A power of two is at most a positive real exactly when its exponent is at most the floor of the logarithm. -/
theorem zpow_le_iff (r : ℝ) (hr : 0 < r) (n : ℤ) : (2 : ℝ) ^ n ≤ r ↔ n ≤ ⌊Real.log r * (Real.log 2)⁻¹⌋ := by
  have h2 : 0 < Real.log 2 := Real.log_pos (by norm_num)
  rw [Int.le_floor, ← div_eq_mul_inv, le_div_iff₀ h2, ← Real.log_zpow, Real.log_le_log_iff (by positivity) hr]

/-- The exponents agree, of any extended real but zero. -/
theorem search_eq_rExpo (t : EReal) (h0 : t ≠ 0) : IntOp.subi (searchField t) 126#32 = rExpo t ∧
    ∃ n : ℤ, -126 ≤ n ∧ n ≤ 126 ∧ rExpo t = BitVec.ofInt 32 n := by
  have key : ∀ (n : ℤ) (K : ℕ), n = (K : ℤ) - 126 → IntOp.subi (BitVec.ofNat 32 K) 126#32 = BitVec.ofInt 32 n := by
    intro n K h
    subst h
    unfold IntOp.subi
    apply BitVec.eq_of_toInt_eq
    rw [BitVec.toInt_sub, BitVec.toInt_ofInt, BitVec.toInt_ofNat']
    have : (126#32 : BitVec 32).toInt = 126 := by decide
    rw [this, Int.bmod_sub_bmod]
  have bot : (∀ k : ℕ, 1 ≤ k → k ≤ 252 → ¬ pow2 (BitVec.ofNat 32 k) ≤ t) → Ideal.log t = ⊥ → IntOp.subi (searchField t) 126#32 = rExpo t ∧
    ∃ n : ℤ, -126 ≤ n ∧ n ≤ 126 ∧ rExpo t = BitVec.ofInt 32 n := by
    intro h hl
    rw [searchField_eq t 0 (fun k a b => ⟨fun h' => absurd h' (h k a b), fun h' => by omega⟩) (by decide), rExpo_of_log_bot t hl]
    exact ⟨key _ _ (by decide), -126, by decide, by decide, rfl⟩
  induction t using EReal.rec with
  | bot =>
    refine bot (fun k a b => ?_) Ideal.log_bot
    rw [pow2_eq k a (by omega)]
    exact not_le.mpr (EReal.bot_lt_coe _)
  | top =>
    rw [searchField_eq ⊤ 252 (fun k a b => ⟨fun _ => b, fun _ => le_top⟩) (by decide), rExpo_top]
    exact ⟨by decide, 126, by decide, by decide, by decide⟩
  | coe r =>
    by_cases hr : 0 < r
    · rw [rExpo_coe r hr]
      generalize hn : ⌊Real.log r * (Real.log 2)⁻¹⌋ = n
      refine ⟨?_, _, by omega, by omega, rfl⟩
      rw [searchField_eq r (min 252 (max 0 (n + 127))).toNat (fun k a b => ?_) (by omega)]
      · exact key _ _ (by omega)
      · rw [pow2_eq k a (by omega), EReal.coe_le_coe_iff, zpow_le_iff r hr, hn]
        omega
    · refine bot (fun k a b => ?_) (by rw [Ideal.log_coe, if_pos (not_lt.mp hr)])
      rw [pow2_eq k a (by omega), EReal.coe_le_coe_iff, not_le]
      exact lt_of_le_of_lt (not_lt.mp hr) (by positivity)

/-- The scaling constant of the quantiser is a nonzero real. -/
def inv448 : EReal := Ideal.ofBits .f32 0x3B124925#32

theorem inv448_ne : inv448 ≠ 0 := by
  unfold inv448
  simp only [Ideal.ofBits, Ideal.ieee]
  rw [if_neg (by decide), if_neg (by decide)]
  intro h
  have := EReal.coe_eq_zero.mp h
  revert this
  have h1 : ((BitVec.extractLsb' (8 + 23) 1 (0x3B124925#32 : BitVec 32)) == 1#1) = false := by decide
  rw [h1]
  have : (0:ℝ) < (2 ^ 23 + (BitVec.extractLsb' 0 23 (0x3B124925#32 : BitVec 32)).toNat : ℕ) := by positivity
  simp only [Bool.false_eq_true, if_false, one_mul]
  positivity

/-- The reference's exponent of a group, from its magnitude `a`. -/
def refExpo (a : EReal) : BitVec 32 :=
  Scalar.select (Ideal.cmp .oeq a (Ideal.ofBits .f32 0x00000000#32)) 0#32 (rExpo (a * inv448))

/-- The kernel's exponent of a group is the reference's, and within the normal exponents. -/
theorem kExpo_eq (a : EReal) : kExpo (a * inv448) = refExpo a ∧ ∃ n : ℤ, -126 ≤ n ∧ n ≤ 126 ∧ refExpo a = BitVec.ofInt 32 n := by
  have cmp (x y : EReal) : Ideal.cmp .oeq x y = BitVec.ofBool (decide (x = y)) := rfl
  unfold kExpo refExpo Scalar.select
  rw [Ideal.ofBits_zero_f32, cmp, cmp]
  by_cases h : a = 0
  · subst h
    rw [zero_mul, decide_eq_true rfl]
    exact ⟨rfl, 0, by decide, by decide, by decide⟩
  · have h' : a * inv448 ≠ 0 := mul_ne_zero h inv448_ne
    rw [decide_eq_false h, decide_eq_false h', if_neg (by decide), if_neg (by decide)]
    exact search_eq_rExpo _ h'

/-- The kernel's inverse scale is the reference's. -/
theorem inv_eq (n : ℤ) (h0 : -126 ≤ n) (h1 : n ≤ 126) :
    pow2 (IntOp.subi 127#32 (BitVec.ofInt 32 n)) = ldexp1 (IntOp.subi 0#32 (BitVec.ofInt 32 n)) := by
  have e1 : IntOp.subi 127#32 (BitVec.ofInt 32 n) = BitVec.ofNat 32 (127 - n).toNat := by
    unfold IntOp.subi
    apply BitVec.eq_of_toInt_eq
    have : (127#32 : BitVec 32).toInt = 127 := by decide
    rw [BitVec.toInt_sub, BitVec.toInt_ofInt, this, Int.sub_bmod_bmod, BitVec.toInt_ofNat']
    congr 1
    omega
  have e2 : IntOp.subi 0#32 (BitVec.ofInt 32 n) = BitVec.ofInt 32 (-n) := by
    unfold IntOp.subi
    rw [BitVec.ofInt_neg]; simp
  rw [e1, e2, pow2_eq _ (by omega) (by omega), ldexp1_eq _ (by omega) (by omega)]
  congr 2
  omega

end Cert.Mx
end
-- ==== Proof.Spec.lean ====
/-
  What both programs compute, over the extended reals, as functions of the rows and columns: the dequantised element,
  the product of two dequantised rows, the gated hidden value, and the quantiser of one group of 32 values.
-/
module

public import proofs.«01_k».proof.Proof.Exponent
public import Idealize.ShloMosaic.PureOps.Ideal.Laws
public import Idealize.ShloMosaic.Lib.MatmulPlain
public import Idealize.ShloMosaic.Lib.ValueLayout

@[expose] public section

set_option maxRecDepth 16384

noncomputable section

namespace Cert.Mx

open Idealize.ShloMosaic

/-- The dequantised element of row `r` and column `k`: the code times two to its group's scale byte less 127. -/
def deq {n : ℕ} (w : Vec Ideal (Sh n 3584) .fp8e4m3) (s : Vec Ideal (Sh n 112) .i8) (r : Fin n) (k : Fin 3584) : EReal :=
  (w (ValueIdx.ix2 r k) : EReal) * ldexp1 (IntOp.subi ((s (ValueIdx.ix2 r (grp k (le_refl _)))).setWidth 32) 127#32)

/-- The kernel's dequantised array, an element at a time. -/
theorem dq_apply {n : ℕ} (w : Vec Ideal (Sh n 3584) .fp8e4m3) (s : Vec Ideal (Sh n 112) .i8) (r : Fin n) (k : Fin 3584) :
    dq (F := Ideal) w s (ValueIdx.ix2 r k) = deq w s r k := by
  unfold deq
  rw [← scale_eq]
  rfl

/-- A row of x times a row of a weight. -/
def dotp {n : ℕ} (x0 : Vec Ideal (Sh 256 3584) .fp8e4m3) (x1 : Vec Ideal (Sh 256 112) .i8) (w : Vec Ideal (Sh n 3584) .fp8e4m3)
    (s : Vec Ideal (Sh n 112) .i8) (r : Fin 256) (f : Fin n) : EReal := ∑ k : Fin 3584, deq x0 x1 r k * deq w s f k

/-- The gated product of row `r` and feature `f`. -/
def hidVal {n : ℕ} (x0 : Vec Ideal (Sh 256 3584) .fp8e4m3) (x1 : Vec Ideal (Sh 256 112) .i8) (x2 : Vec Ideal (Sh n 3584) .fp8e4m3)
    (x3 : Vec Ideal (Sh n 112) .i8) (x4 : Vec Ideal (Sh n 3584) .fp8e4m3) (x5 : Vec Ideal (Sh n 112) .i8) (r : Fin 256) (f : Fin n) : EReal :=
  dotp x0 x1 x2 x3 r f * Ideal.logistic (dotp x0 x1 x2 x3 r f) * dotp x0 x1 x4 x5 r f

/-- The largest magnitude of a group. -/
def grpMax (v : Fin 32 → EReal) : EReal := Finset.univ.fold max (Ideal.ofBits .f32 0xFF800000#32) fun j => max (v j) (-v j)

/-- The code of the value `x` of the group `v`. -/
def code (v : Fin 32 → EReal) (x : EReal) : EReal :=
  min (Ideal.ofBits .f32 0x43E00000#32) (max (Ideal.ofBits .f32 0xC3E00000#32) (x * ldexp1 (IntOp.subi 0#32 (refExpo (grpMax v)))))

/-- The scale byte of the group `v`. -/
def sbyte (v : Fin 32 → EReal) : BitVec 8 := (IntOp.addi (refExpo (grpMax v)) 127#32).setWidth 8

/-- The group of 32 features that feature `f` of `n` lies in. -/
def grpOf {n : ℕ} (hn : n % 32 = 0) (f : Fin n) (j : Fin 32) : Fin n := ⟨32 * (f.val / 32) + j.val, by have := f.isLt; have := j.isLt; omega⟩

end Cert.Mx
end
-- ==== Proof.BlockValue.lean ====
/-
  What one grid point of the kernel computes over the extended reals: the codes of its 512 features of every row, and
  the biased exponents of their sixteen groups.
-/
module

public import proofs.«01_k».proof.Proof.RunKernelIdeal
public import proofs.«01_k».proof.Proof.Spec

@[expose] public section

set_option maxRecDepth 16384

noncomputable section

namespace Cert.KernelIdeal.Body

open Cert.KernelIdeal Cert.KernelIdeal.Gen
open Idealize.ShloMosaic
open Cert.Mx

variable (x0 : Vec Ideal S256x3584 .fp8e4m3) (x1 : Vec Ideal S256x112 .i8) (x2 : Vec Ideal S512x3584 .fp8e4m3)
  (x3 : Vec Ideal S512x112 .i8) (x4 : Vec Ideal S512x3584 .fp8e4m3) (x5 : Vec Ideal S512x112 .i8)

theorem dot_eq : dot_S512x3584_S256x3584_S512x256_1_1_0_0_n_n = DotDims.transposedRhs 512 3584 256 := rfl

/-- A product of the point, element by element. -/
theorem gateOf_apply (f : Fin 512) (r : Fin 256) : gateOf (F := Ideal) (dq x0 x1) x2 x3 (ValueIdx.ix2 f r) = dotp x0 x1 x2 x3 r f := by
  unfold gateOf k0_pay94 dotp
  simp only [matmul]
  rw [dot_eq, Ideal.matmul_transposedRhs_apply]
  have : (constant S512x256 .f32 0x00000000#32 : FVec Ideal S512x256 .f32) (ValueIdx.ix2 f r) = (0 : EReal) := Ideal.ofBits_zero_f32
  rw [this, zero_add]
  refine Finset.sum_congr rfl fun k _ => ?_
  rw [dq_apply, dq_apply, mul_comm]

/-- The gated product of the point, its rows in groups. -/
theorem hid_apply (g : Fin 16) (j : Fin 32) (r : Fin 256) :
    hid (F := Ideal) x0 x1 x2 x3 x4 x5 (ValueIdx.ix3 g j r) = hidVal x0 x1 x2 x3 x4 x5 r ⟨32 * g.val + j.val, by omega⟩ := by
  unfold hid k0_pay140
  rw [shapeCast_apply _ _ _ (ValueIdx.ix2 ⟨32 * g.val + j.val, by omega⟩ r) (by rw [Shape.rowMajor_val_two, Shape.rowMajor_val_three]; show (32 * g.val + j.val) * 256 + r.val = (g.val * 32 + j.val) * 256 + r.val; omega)]
  have hu := gateOf_apply x0 x1 x4 x5 ⟨32 * g.val + j.val, by omega⟩ r
  have hg := gateOf_apply x0 x1 x2 x3 ⟨32 * g.val + j.val, by omega⟩ r
  unfold hidVal
  rw [← hu, ← hg]
  rfl

/-- The largest magnitude of each group of the point. -/
theorem amax_apply (g : Fin 16) (r : Fin 256) :
    amax (F := Ideal) x0 x1 x2 x3 x4 x5 (ValueIdx.ix3 g 0 r) = grpMax fun j => hidVal x0 x1 x2 x3 x4 x5 r ⟨32 * g.val + j.val, by omega⟩ := by
  unfold amax k0_pay141
  rw [shapeCast_apply _ _ _ (ValueIdx.ix2 g r) (by rw [Shape.rowMajor_val_two, Shape.rowMajor_val_three]; show g.val * 256 + r.val = (g.val * 1 + 0) * 256 + r.val; omega)]
  refine (Ideal.multiReduction_maximumf_single _ _ _ _ _ _).trans ?_
  unfold grpMax
  refine congrArg (fun f => Finset.univ.fold max _ f) (funext fun j => ?_)
  have e : (Shape.Reduces.lift (s := S16x32x256) (t := S16x256) (a := 1) reduces_S16x32x256_S16x256 (ValueIdx.ix2 g r) j) = ValueIdx.ix3 g j r := by
    funext a; apply Fin.ext
    match a with
    | ⟨0, _⟩ => rfl
    | ⟨1, _⟩ => rfl
    | ⟨2, _⟩ => rfl
  exact congrArg (fun v : EReal => max v (-v)) ((congrArg (hid (F := Ideal) x0 x1 x2 x3 x4 x5) e).trans (hid_apply x0 x1 x2 x3 x4 x5 g j r))

/-- One step of the search on whole vectors. -/
def vstep (t : FVec Ideal S16x1x256 .f32) (f : IVec S16x1x256 32) (s : BitVec 32) : IVec S16x1x256 32 :=
  select (cmpf .oge t (bitcastToFloat .f32 (shli (addi f (broadcast S16x1x256 s)) (broadcast S16x1x256 23#32)))) (addi f (broadcast S16x1x256 s)) f

theorem vstep_apply (t : FVec Ideal S16x1x256 .f32) (f : IVec S16x1x256 32) (s : BitVec 32) (y : S16x1x256.Idx) :
    vstep t f s y = searchStep (t y) (f y) s := rfl

/-- The first four steps. -/
theorem pay144_eq (a : FVec Ideal S16x1x256 .f32) (K : EReal) : k0_pay144 (F := Ideal) a K
    = vstep (k0_pay142 (F := Ideal) a K) (vstep (k0_pay142 (F := Ideal) a K) (vstep (k0_pay142 (F := Ideal) a K)
      (vstep (k0_pay142 (F := Ideal) a K) (broadcast S16x1x256 0#32) 126#32) 63#32) 32#32) 16#32 := by
  unfold k0_pay144
  rfl

/-- The last four, the bias and the zero test. -/
theorem pay147_eq (t : FVec Ideal S16x1x256 .f32) (z : IVec S16x1x256 1) (f : IVec S16x1x256 32) :
    k0_pay147 (F := Ideal) t z f (addi f (broadcast S16x1x256 8#32)) (broadcast S16x1x256 23#32)
      = select z (broadcast S16x1x256 0#32) (subi (vstep t (vstep t (vstep t (vstep t f 8#32) 4#32) 2#32) 1#32) (broadcast S16x1x256 126#32)) := by
  unfold k0_pay147
  rfl

theorem subi_at (x : IVec S16x1x256 32) (b : BitVec 32) (y : S16x1x256.Idx) : subi x (broadcast S16x1x256 b) y = IntOp.subi (x y) b := rfl

/-- The exponent of a group is the search's, of its scaled magnitude. -/
theorem expo_apply (a : FVec Ideal S16x1x256 .f32) (y : S16x1x256.Idx) : expo (F := Ideal) a y = refExpo (a y) := by
  rw [← (kExpo_eq (a y)).1]
  have h := congrFun (pay147_eq (k0_pay142 (F := Ideal) a (Scalar.ofBits .f32 0x3B124925#32)) (k0_pay143 (F := Ideal) a (Scalar.ofBits .f32 0x3B124925#32))
    (k0_pay144 (F := Ideal) a (Scalar.ofBits .f32 0x3B124925#32))) y
  refine Eq.trans h ?_
  rw [pay144_eq]
  have ht : k0_pay142 (F := Ideal) a (Scalar.ofBits .f32 0x3B124925#32) y = (a y : EReal) * inv448 := rfl
  have hz : k0_pay143 (F := Ideal) a (Scalar.ofBits .f32 0x3B124925#32) y = Ideal.cmp .oeq ((a y : EReal) * inv448) (Ideal.ofBits .f32 0x00000000#32) := rfl
  have hb : (broadcast S16x1x256 0#32 : IVec S16x1x256 32) y = 0#32 := rfl
  rw [ValueIdx.select_apply, subi_at, vstep_apply, vstep_apply, vstep_apply, vstep_apply, vstep_apply, vstep_apply, vstep_apply, vstep_apply, hb, ht, hz]
  rfl

/-- The groups scaled, on whole vectors. -/
theorem scaled_eq (h : FVec Ideal S16x32x256 .f32) (a : FVec Ideal S16x1x256 .f32) : scaled (F := Ideal) h a
    = mulf h (broadcastTo S16x32x256 (bitcastToFloat .f32 (shli (subi (broadcast S16x1x256 127#32) (expo (F := Ideal) a)) (broadcast S16x1x256 23#32)))
      broadcasts_S16x1x256_S16x32x256) := by
  unfold scaled k0_pay148 expo
  rfl

/-- The scaled value of a group. -/
theorem scaled_apply (h : FVec Ideal S16x32x256 .f32) (a : FVec Ideal S16x1x256 .f32) (g : Fin 16) (j : Fin 32) (r : Fin 256) :
    scaled (F := Ideal) h a (ValueIdx.ix3 g j r) = (h (ValueIdx.ix3 g j r) : EReal) * ldexp1 (IntOp.subi 0#32 (refExpo (a (ValueIdx.ix3 g 0 r)))) := by
  obtain ⟨n, h0, h1, hn⟩ := (kExpo_eq (a (ValueIdx.ix3 g 0 r))).2
  have he := expo_apply a (ValueIdx.ix3 g 0 r)
  rw [hn, ← inv_eq n h0 h1, ← hn, ← he, scaled_eq]
  show (h (ValueIdx.ix3 g j r) : EReal) * broadcastTo S16x32x256 (bitcastToFloat (F := Ideal) .f32 (shli (subi (broadcast S16x1x256 127#32) (expo (F := Ideal) a)) (broadcast S16x1x256 23#32)))
    broadcasts_S16x1x256_S16x32x256 (ValueIdx.ix3 g j r) = _
  rw [broadcastTo_apply _ _ _ (ValueIdx.ix3 g 0 r) (fun b => match b with | ⟨0, _⟩ => rfl | ⟨1, _⟩ => rfl | ⟨2, _⟩ => rfl)]
  rfl

/-- The codes of the point. -/
theorem codes_apply (r : Fin 256) (f : Fin 512) :
    codes (F := Ideal) x0 x1 x2 x3 x4 x5 (ValueIdx.ix2 r f)
      = code (fun j => hidVal x0 x1 x2 x3 x4 x5 r (grpOf (by decide) f j)) (hidVal x0 x1 x2 x3 x4 x5 r f) := by
  have hf : (⟨32 * (f.val / 32) + f.val % 32, by omega⟩ : Fin 512) = f := Fin.ext (by show 32 * (f.val / 32) + f.val % 32 = f.val; omega)
  have hs := scaled_apply (hid (F := Ideal) x0 x1 x2 x3 x4 x5) (amax (F := Ideal) x0 x1 x2 x3 x4 x5) ⟨f.val / 32, by omega⟩ ⟨f.val % 32, by omega⟩ r
  rw [hid_apply, amax_apply] at hs
  dsimp only at hs
  rw [hf] at hs
  unfold codes k0_pay149
  rw [show ∀ (z : FVec Ideal S256x512 .f32) (h) (i), truncf (F := Ideal) .fp8e4m3 z h i = z i from fun _ _ _ => rfl]
  rw [ValueIdx.transpose_ix2_apply]
  rw [shapeCast_apply _ _ _ (ValueIdx.ix3 ⟨f.val / 32, by omega⟩ ⟨f.val % 32, by omega⟩ r) (by rw [Shape.rowMajor_val_two, Shape.rowMajor_val_three]; show (f.val / 32 * 32 + f.val % 32) * 256 + r.val = f.val * 256 + r.val; omega)]
  unfold code grpOf
  rw [← hs]
  rfl

/-- The biased exponents of the point. -/
theorem scales_apply (g : Fin 16) (r : Fin 256) :
    (scales (F := Ideal) x0 x1 x2 x3 x4 x5 (ValueIdx.ix2 g r)).setWidth 8 = sbyte fun j => hidVal x0 x1 x2 x3 x4 x5 r ⟨32 * g.val + j.val, by omega⟩ := by
  unfold scales k0_pay150
  rw [shapeCast_id, shapeCast_apply _ _ _ (ValueIdx.ix3 g 0 r) (by rw [Shape.rowMajor_val_two, Shape.rowMajor_val_three]; show (g.val * 1 + 0) * 256 + r.val = g.val * 256 + r.val; omega)]
  unfold sbyte
  rw [← amax_apply, ← expo_apply]
  rfl

end Cert.KernelIdeal.Body
end
-- ==== Proof.KernelValue.lean ====
/-
  What the kernel's two result arrays hold at the end of the run, over the extended reals: every code and every scale
  byte as a function of the argument arrays.
-/
module

public import proofs.«01_k».proof.Proof.RunKernelIdeal
public import proofs.«01_k».proof.Proof.BlockValue
public import Idealize.ShloMosaic.Lib.Pipeline.ValueKit

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.ShloMosaic.Pipeline (Dat)
open Cert.Mx

variable (m : (ℓ : Loc nD τ sig) → Buf (Elt Ideal) ℓ)

/-- Every window's block index at every point. -/
theorem idx : ∀ t : Fin cfg0.N, win0_0.index t = ![0, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, t.val] ∧ win0_7.index t = ![0, 0] :=
  (by decide +kernel : ∀ t : Fin grid0.N, _)

/-- The feature of the whole array at which feature `f` of point `t`'s block sits. -/
def feat (t : Fin cfg0.N) (f : Fin 512) : Fin 18944 := ⟨512 * t.val + f.val, by have : t.val < 37 := t.isLt; have := f.isLt; omega⟩

/-- The six argument arrays as the region finds them. -/
abbrev arr0 (c : Dev nD) : Vec Ideal (Sh 256 3584) .fp8e4m3 := V m c main_v0
abbrev arr1 (c : Dev nD) : Vec Ideal (Sh 256 112) .i8 := V m c main_v1
abbrev arr2 (c : Dev nD) : Vec Ideal (Sh 18944 3584) .fp8e4m3 := m ((c : Thread nD τ).loc main_arg2)
abbrev arr3 (c : Dev nD) : Vec Ideal (Sh 18944 112) .i8 := m ((c : Thread nD τ).loc main_arg3)
abbrev arr4 (c : Dev nD) : Vec Ideal (Sh 18944 3584) .fp8e4m3 := m ((c : Thread nD τ).loc main_arg4)
abbrev arr5 (c : Dev nD) : Vec Ideal (Sh 18944 112) .i8 := m ((c : Thread nD τ).loc main_arg5)

/-- Each block at an index is its array at the place the block has there. -/
theorem blk0 (c : Dev nD) (t : Fin cfg0.N) (r : Fin 256) (k : Fin 3584) : (iblk m c 0 t : Vec Ideal S256x3584 .fp8e4m3) (ValueIdx.ix2 r k) = arr0 m c (ValueIdx.ix2 r k) := by
  blk_ext [iblk, idx t]
theorem blk1 (c : Dev nD) (t : Fin cfg0.N) (r : Fin 256) (k : Fin 112) : (iblk m c 1 t : Vec Ideal S256x112 .i8) (ValueIdx.ix2 r k) = arr1 m c (ValueIdx.ix2 r k) := by
  blk_ext [iblk, idx t]
theorem blk2 (c : Dev nD) (t : Fin cfg0.N) (f : Fin 512) (k : Fin 3584) : (iblk m c 2 t : Vec Ideal S512x3584 .fp8e4m3) (ValueIdx.ix2 f k) = arr2 m c (ValueIdx.ix2 (feat t f) k) := by
  blk_ext [iblk, V, feat, idx t]
  exact congrArg (· + f.val) (Nat.mul_comm t.val 512)
theorem blk3 (c : Dev nD) (t : Fin cfg0.N) (f : Fin 512) (k : Fin 112) : (iblk m c 3 t : Vec Ideal S512x112 .i8) (ValueIdx.ix2 f k) = arr3 m c (ValueIdx.ix2 (feat t f) k) := by
  blk_ext [iblk, V, feat, idx t]
  exact congrArg (· + f.val) (Nat.mul_comm t.val 512)
theorem blk4 (c : Dev nD) (t : Fin cfg0.N) (f : Fin 512) (k : Fin 3584) : (iblk m c 4 t : Vec Ideal S512x3584 .fp8e4m3) (ValueIdx.ix2 f k) = arr4 m c (ValueIdx.ix2 (feat t f) k) := by
  blk_ext [iblk, V, feat, idx t]
  exact congrArg (· + f.val) (Nat.mul_comm t.val 512)
theorem blk5 (c : Dev nD) (t : Fin cfg0.N) (f : Fin 512) (k : Fin 112) : (iblk m c 5 t : Vec Ideal S512x112 .i8) (ValueIdx.ix2 f k) = arr5 m c (ValueIdx.ix2 (feat t f) k) := by
  blk_ext [iblk, V, feat, idx t]
  exact congrArg (· + f.val) (Nat.mul_comm t.val 512)

/-- The hidden value of row `r` and feature `f`, of the whole arrays. -/
def hidAll (c : Dev nD) (r : Fin 256) (f : Fin 18944) : EReal := hidVal (arr0 m c) (arr1 m c) (arr2 m c) (arr3 m c) (arr4 m c) (arr5 m c) r f

/-- The hidden values of point `t`'s blocks are those of the whole arrays. -/
theorem hid_block (c : Dev nD) (t : Fin cfg0.N) (r : Fin 256) (f : Fin 512) :
    hidVal (iblk m c 0 t) (iblk m c 1 t) (iblk m c 2 t) (iblk m c 3 t) (iblk m c 4 t) (iblk m c 5 t) r f = hidAll m c r (feat t f) := by
  have ex : ∀ k, deq (iblk m c 0 t) (iblk m c 1 t) r k = deq (arr0 m c) (arr1 m c) r k := fun k => by
    unfold deq; rw [blk0, blk1]
  have eg : ∀ k, deq (iblk m c 2 t) (iblk m c 3 t) f k = deq (arr2 m c) (arr3 m c) (feat t f) k := fun k => by
    unfold deq; rw [blk2, blk3]
  have eu : ∀ k, deq (iblk m c 4 t) (iblk m c 5 t) f k = deq (arr4 m c) (arr5 m c) (feat t f) k := fun k => by
    unfold deq; rw [blk4, blk5]
  unfold hidAll hidVal dotp
  simp only [ex, eg, eu]

/-- The codes of the whole arrays. -/
def codeAll (c : Dev nD) : Vec Ideal S256x18944 .fp8e4m3 := fun y => code (fun j => hidAll m c (y 0) (grpOf (by decide) (y 1) j)) (hidAll m c (y 0) (y 1))

/-- The scale bytes of the whole arrays. -/
def byteAll (c : Dev nD) : Vec Ideal S256x592 .i8 := fun y => sbyte fun j => hidAll m c (y 0) ⟨32 * (y 1).val + j.val, by have : (y 1).val < 592 := (y 1).isLt; have := j.isLt; omega⟩

/-- What point `t` computes at `(r, f)` is the whole arrays' code at the feature `f` sits at. -/
theorem codesAt_apply (c : Dev nD) (t : Fin cfg0.N) (r : Fin 256) (f : Fin 512) : codesAt m c t (ValueIdx.ix2 r f) = codeAll m c (ValueIdx.ix2 r (feat t f)) := by
  unfold codesAt codeAll
  rw [codes_apply]
  simp only [hid_block]
  have e : ∀ j, feat t (grpOf (by decide) f j) = grpOf (by decide) (feat t f) j := fun j => by
    apply Fin.ext
    show 512 * t.val + (32 * (f.val / 32) + j.val) = 32 * ((512 * t.val + f.val) / 32) + j.val
    omega
  simp only [e]

/-- The first result array at the end. -/
theorem final6 (c : Dev nD) : (dats m 0 c).arrAt 6 (cfgs 0).N = codeAll m c := by
  refine (dats m 0 c).arrAt_eq_of_covers 6 _ (by decide +kernel) fun t _ y => ?_
  blk_simp
  rw [after0_6]
  obtain ⟨r, f, rfl⟩ : ∃ (r : Fin 256) (f : Fin 512), y = ValueIdx.ix2 r f := ⟨y 0, y 1, by funext b; match b with | ⟨0, _⟩ => rfl | ⟨1, _⟩ => rfl⟩
  refine (codesAt_apply m c t r f).trans (congrArg (codeAll m c) ?_)
  blk_ext [feat, idx t]
  exact congrArg (· + f.val) (Nat.mul_comm 512 t.val)

/-- A scale byte of the transposed buffer. -/
theorem pay1_apply (W : Vec Ideal S640x256 .i32) (r : Fin 256) (g : Fin 592) : k0_pay1 (F := Ideal) W (ValueIdx.ix2 r g) = (W (ValueIdx.ix2 (g.castLE (by decide)) r)).setWidth 8 := by
  unfold k0_pay1
  refine congrArg (BitVec.setWidth 8) ((transpose_apply [1, 0] W _ _ (ValueIdx.ix2 (g.castLE (by decide)) r) ?_))
  intro b
  match b with
  | ⟨0, _⟩ => show r.val = 0 + r.val; omega
  | ⟨1, _⟩ => show g.val = 0 + g.val; omega

/-- The scale bytes written at the last point are the whole arrays'. -/
theorem bytes_apply (c : Dev nD) (r : Fin 256) (g : Fin 592) : k0_pay1 (F := Ideal) (allScales m c) (ValueIdx.ix2 r g) = byteAll m c (ValueIdx.ix2 r g) := by
  rw [pay1_apply]
  have hg : g.val < 592 := g.isLt
  unfold allScales
  rw [dif_pos (show ((ValueIdx.ix2 (g.castLE (show 592 ≤ 640 by decide)) r : S640x256.Idx) 0).val < 592 from hg)]
  unfold scalesAt
  refine (scales_apply _ _ _ _ _ _ ⟨g.val % 16, by omega⟩ r).trans ?_
  unfold byteAll
  simp only [hid_block]
  refine congrArg sbyte (funext fun j => congrArg (hidAll m c r) (Fin.ext ?_))
  show 512 * (g.val / 16) + (32 * (g.val % 16) + j.val) = 32 * g.val + j.val
  omega

/-- The second result array at the end. -/
theorem final7 (c : Dev nD) : (dats m 0 c).arrAt 7 (cfgs 0).N = byteAll m c := by
  refine (dats m 0 c).arrAt_eq_of_covers 7 _ (by decide +kernel) fun t _ y => ?_
  blk_simp
  rw [after0_7]
  obtain ⟨r, g, rfl⟩ : ∃ (r : Fin 256) (g : Fin 592), y = ValueIdx.ix2 r g := ⟨y 0, y 1, by funext b; match b with | ⟨0, _⟩ => rfl | ⟨1, _⟩ => rfl⟩
  refine (bytes_apply m c r g).trans (congrArg (byteAll m c) ?_)
  blk_ext [idx t]

/-- x and its scales as the region finds them: the arguments reshaped. -/
theorem entry0 (c : Dev nD) : V m c main_v0 = shapeCast S256x3584 (m ((c : Thread nD τ).loc main_arg0)) shapeCasts_S1x256x3584_S256x3584 := by
  entry_read; try rfl
theorem entry1 (c : Dev nD) : V m c main_v1 = shapeCast S256x112 (m ((c : Thread nD τ).loc main_arg1)) shapeCasts_S1x256x112_S256x112 := by
  entry_read; try rfl

end Cert.KernelIdeal.Body
end
-- ==== Proof.RefBlock.lean ====
/-
  What the reference computes over the extended reals, element by element: the same functions of the rows and columns
  as the kernel's.
-/
module

public import proofs.«01_k».proof.Proof.Gen.ReferenceIdeal.Frame
public import proofs.«01_k».proof.Proof.Spec

@[expose] public section

set_option maxRecDepth 16384

noncomputable section

namespace Cert.ReferenceIdeal.Body

open Cert.ReferenceIdeal Cert.ReferenceIdeal.Gen
open Idealize.ShloMosaic
open Cert.Mx

/-- A rank-3 shape. -/
abbrev Sh3 (a b c : ℕ) : Shape := ⟨3, ![a, b, c]⟩

/-- Two to the integers of a vector, flushed below and overflowing above. -/
def vldexp {s : Shape} (n : IVec s 32) : FVec Ideal s .f32 :=
  select (cmpi .slt n (broadcast s 4294967170#32)) (broadcast s (Scalar.ofBits (F := Ideal) .f32 0x00000000#32))
    (select (cmpi .sgt n (broadcast s 127#32)) (broadcast s (Scalar.ofBits (F := Ideal) .f32 0x7F800000#32)) (exp2 (sitofp .f32 n)))

theorem vldexp_apply {s : Shape} (n : IVec s 32) (y : s.Idx) : vldexp n y = ldexp1 (n y) := rfl

/-- The scales of an array's groups. -/
def vscale {n : ℕ} (s : IVec (Sh n 112) 8) : FVec Ideal (Sh n 112) .bf16 :=
  truncf .bf16 (vldexp (subi (extui 32 s natLt_8_32) (broadcast (Sh n 112) 127#32))) bitsLt_bf16_f32

/-- The codes times their groups' scales. -/
def vdeq {n : ℕ} (h1 : (Sh n 112).ShapeCasts (Sh3 n 112 1)) (h2 : (Sh3 n 112 1).Broadcasts (Sh3 n 112 32)) (h3 : (Sh3 n 112 32).ShapeCasts (Sh n 3584))
    (w : FVec Ideal (Sh3 n 112 32) .bf16) (s : FVec Ideal (Sh n 112) .bf16) : FVec Ideal (Sh n 3584) .bf16 :=
  shapeCast (Sh n 3584) (mulf w (broadcastTo (Sh3 n 112 32) (shapeCast (Sh3 n 112 1) s h1) h2)) h3

theorem vdeq_apply {n : ℕ} (h0 : (Sh n 3584).ShapeCasts (Sh3 n 112 32)) (h1 h2 h3) (w : Vec Ideal (Sh n 3584) .fp8e4m3) (s : Vec Ideal (Sh n 112) .i8)
    (r : Fin n) (k : Fin 3584) :
    vdeq h1 h2 h3 (shapeCast (Sh3 n 112 32) (extf (F := Ideal) .bf16 w bitsLt_fp8e4m3_bf16) h0) (vscale s) (ValueIdx.ix2 r k) = deq w s r k := by
  have hk := k.isLt
  unfold vdeq
  rw [shapeCast_apply _ _ _ (ValueIdx.ix3 r (grp k (le_refl _)) (⟨k.val % 32, by omega⟩ : Fin 32)) (by
    rw [Shape.rowMajor_val_two, Shape.rowMajor_val_three]; show (r.val * 112 + k.val / 32) * 32 + k.val % 32 = r.val * 3584 + k.val; omega)]
  show (shapeCast (Sh3 n 112 32) (extf (F := Ideal) .bf16 w bitsLt_fp8e4m3_bf16) h0 (ValueIdx.ix3 r (grp k (le_refl _)) (⟨k.val % 32, by omega⟩ : Fin 32)) : EReal)
    * broadcastTo (Sh3 n 112 32) (shapeCast (Sh3 n 112 1) (vscale s) h1) h2 (ValueIdx.ix3 r (grp k (le_refl _)) (⟨k.val % 32, by omega⟩ : Fin 32)) = _
  rw [shapeCast_apply _ _ _ (ValueIdx.ix2 r k) (by
    rw [Shape.rowMajor_val_two, Shape.rowMajor_val_three]; show r.val * 3584 + k.val = (r.val * 112 + k.val / 32) * 32 + k.val % 32; omega)]
  rw [broadcastTo_apply _ _ _ (ValueIdx.ix3 r (grp k (le_refl _)) (0 : Fin 1)) (fun b => by
    match b with
    | ⟨0, _⟩ =>
      show r.val = if n = 1 then 0 else r.val
      split
      · have := r.isLt; omega
      · rfl
    | ⟨1, _⟩ => rfl
    | ⟨2, _⟩ => rfl)]
  rw [shapeCast_apply _ _ _ (ValueIdx.ix2 r (grp k (le_refl _))) (by
    rw [Shape.rowMajor_val_two, Shape.rowMajor_val_three]; show r.val * 112 + k.val / 32 = (r.val * 112 + k.val / 32) * 1 + 0; omega)]
  rfl

variable (x0 : Vec Ideal S256x3584 .fp8e4m3) (x1 : Vec Ideal S256x112 .i8) (x2 : Vec Ideal S18944x3584 .fp8e4m3)
  (x3 : Vec Ideal S18944x112 .i8) (x4 : Vec Ideal S18944x3584 .fp8e4m3) (x5 : Vec Ideal S18944x112 .i8)

/-- x dequantised. -/
theorem pay4_apply (r : Fin 256) (k : Fin 3584) : k0_pay4 (F := Ideal) x0 x1 (ValueIdx.ix2 r k) = deq x0 x1 r k := by
  rw [← vdeq_apply shapeCasts_S256x3584_S256x112x32 shapeCasts_S256x112_S256x112x1 broadcasts_S256x112x1_S256x112x32 shapeCasts_S256x112x32_S256x3584 x0 x1 r k]
  unfold k0_pay4
  rw [shapeCast_id, shapeCast_id]
  rfl

/-- A weight dequantised, as a vector. -/
abbrev wdeq (w : Vec Ideal S18944x3584 .fp8e4m3) (s : Vec Ideal S18944x112 .i8) : FVec Ideal S18944x3584 .bf16 :=
  vdeq shapeCasts_S18944x112_S18944x112x1 broadcasts_S18944x112x1_S18944x112x32 shapeCasts_S18944x112x32_S18944x3584
    (shapeCast (Sh3 18944 112 32) (extf (F := Ideal) .bf16 w bitsLt_fp8e4m3_bf16) shapeCasts_S18944x3584_S18944x112x32) (vscale s)

theorem dot_eq : dot_S256x3584_S18944x3584_S256x18944_1_1_0_0_n_n = DotDims.transposedRhs 256 3584 18944 := rfl

/-- x times a weight. -/
def prod (w : Vec Ideal S18944x3584 .fp8e4m3) (s : Vec Ideal S18944x112 .i8) : FVec Ideal S256x18944 .f32 :=
  matmul dot_S256x3584_S18944x3584_S256x18944_1_1_0_0_n_n none (k0_pay4 (F := Ideal) x0 x1) (wdeq w s) (constant S256x18944 .f32 0x00000000#32)

theorem prod_apply (w : Vec Ideal S18944x3584 .fp8e4m3) (s : Vec Ideal S18944x112 .i8) (r : Fin 256) (f : Fin 18944) :
    prod x0 x1 w s (ValueIdx.ix2 r f) = dotp x0 x1 w s r f := by
  unfold prod dotp
  simp only [matmul]
  rw [dot_eq, Ideal.matmul_transposedRhs_apply]
  have : (constant S256x18944 .f32 0x00000000#32 : FVec Ideal S256x18944 .f32) (ValueIdx.ix2 r f) = (0 : EReal) := Ideal.ofBits_zero_f32
  rw [this, zero_add]
  refine Finset.sum_congr rfl fun k _ => ?_
  rw [pay4_apply]
  exact congrArg (deq x0 x1 r k * ·) (vdeq_apply _ _ _ _ w s f k)

/-- The gated products in groups, from the six arrays. -/
abbrev grouped : FVec Ideal S256x592x32 .f32 := k0_pay7 (F := Ideal) (k0_pay4 (F := Ideal) x0 x1) (k0_pay5 (F := Ideal) x3) (k0_pay6 (F := Ideal) x2) x4 x5

theorem grouped_eq : grouped x0 x1 x2 x3 x4 x5 = shapeCast S256x592x32 (mulf (mulf (prod x0 x1 x2 x3) (logistic (prod x0 x1 x2 x3))) (prod x0 x1 x4 x5))
    shapeCasts_S256x18944_S256x592x32 := by
  unfold grouped k0_pay7 k0_pay5 k0_pay6 prod
  rfl

/-- The gated product of row `r`, group `g`, place `j`. -/
theorem grouped_apply (r : Fin 256) (g : Fin 592) (j : Fin 32) :
    grouped x0 x1 x2 x3 x4 x5 (ValueIdx.ix3 r g j) = hidVal x0 x1 x2 x3 x4 x5 r ⟨32 * g.val + j.val, by omega⟩ := by
  rw [grouped_eq, shapeCast_apply _ _ _ (ValueIdx.ix2 r (⟨32 * g.val + j.val, by omega⟩ : Fin 18944)) (by
    rw [Shape.rowMajor_val_two, Shape.rowMajor_val_three]; show r.val * 18944 + (32 * g.val + j.val) = (r.val * 592 + g.val) * 32 + j.val; omega)]
  unfold hidVal
  rw [← prod_apply, ← prod_apply]
  rfl

/-- The largest magnitudes of the groups. -/
abbrev maxes : FVec Ideal S256x592 .f32 := k0_pay8 (F := Ideal) (k0_pay4 (F := Ideal) x0 x1) (k0_pay5 (F := Ideal) x3) (k0_pay6 (F := Ideal) x2) x4 x5

theorem maxes_apply (r : Fin 256) (g : Fin 592) :
    maxes x0 x1 x2 x3 x4 x5 (ValueIdx.ix2 r g) = grpMax fun j => hidVal x0 x1 x2 x3 x4 x5 r ⟨32 * g.val + j.val, by omega⟩ := by
  unfold maxes k0_pay8
  refine (Ideal.multiReduction_maximumf_single _ _ _ _ _ _).trans ?_
  unfold grpMax
  refine congrArg (fun f => Finset.univ.fold max _ f) (funext fun j => ?_)
  have e : (Shape.Reduces.lift (s := S256x592x32) (t := S256x592) (a := 2) reduces_S256x592x32_S256x592 (ValueIdx.ix2 r g) j) = ValueIdx.ix3 r g j := by
    funext a; apply Fin.ext
    match a with
    | ⟨0, _⟩ => rfl
    | ⟨1, _⟩ => rfl
    | ⟨2, _⟩ => rfl
  exact congrArg (fun v : EReal => max v (-v)) ((congrArg (grouped x0 x1 x2 x3 x4 x5) e).trans (grouped_apply x0 x1 x2 x3 x4 x5 r g j))

/-- The exponent before it is clipped, on whole vectors. -/
theorem pay9_vec (v23 v39 v41) (v46 : Vec Ideal S18944x3584 .fp8e4m3) (v47 : Vec Ideal S18944x112 .i8) :
    k0_pay9 (F := Ideal) v23 v39 v41 v46 v47
      = addf (floor (divf (log (mulf (k0_pay8 (F := Ideal) v23 v39 v41 v46 v47) (broadcast S256x592 (Scalar.ofBits (F := Ideal) .f32 0x3B124925#32))))
        (log (broadcast S256x592 (Scalar.ofBits (F := Ideal) .f32 0x40000000#32))))) (broadcast S256x592 (Scalar.ofBits (F := Ideal) .f32 0x3F800000#32)) := by
  unfold k0_pay9
  rfl

/-- An element of a vector of that shape. -/
theorem expo_at {s : Shape} (b : FVec Ideal s .f32) (p q r : EReal) (y : s.Idx) :
    addf (φ := .f32) (floor (φ := .f32) (divf (φ := .f32) (log (φ := .f32) (mulf (φ := .f32) b (broadcast s p))) (log (φ := .f32) (broadcast s q)))) (broadcast s r) y
      = Ideal.liftRound Int.floor (Ideal.div (Ideal.log ((b y : EReal) * p)) (Ideal.log q)) + r := rfl

/-- The exponent before it is clipped, from the largest magnitudes. -/
theorem pay9_eq (v23 v39 v41) (v46 : Vec Ideal S18944x3584 .fp8e4m3) (v47 : Vec Ideal S18944x112 .i8) (y : S256x592.Idx) :
    k0_pay9 (F := Ideal) v23 v39 v41 v46 v47 y
      = Ideal.liftRound Int.floor (Ideal.div (Ideal.log ((k0_pay8 (F := Ideal) v23 v39 v41 v46 v47 y : EReal) * inv448)) (Ideal.log (Ideal.ofBits .f32 0x40000000#32)))
        + Ideal.ofBits .f32 0x3F800000#32 :=
  (congrFun (pay9_vec v23 v39 v41 v46 v47) y).trans
    (expo_at (k0_pay8 (F := Ideal) v23 v39 v41 v46 v47) inv448 (Ideal.ofBits .f32 0x40000000#32) (Ideal.ofBits .f32 0x3F800000#32) y)

/-- The clipped exponent, zero for a zero magnitude. -/
theorem pay1_eq (a : FVec Ideal S256x592 .f32) (v : FVec Ideal S256x592 .f32) (lo hi : BitVec 32) (y : S256x592.Idx) :
    k0_pay1 (F := Ideal) a v lo hi y
      = Scalar.select (Ideal.cmp .oeq (a y) (Ideal.ofBits .f32 0#32)) 0#32
        (Ideal.fptosi 32 (min ((hi.toInt : ℝ) : EReal) (max ((lo.toInt : ℝ) : EReal) (v y)))) := by
  unfold k0_pay1
  rw [ValueIdx.select_apply]
  have h0 : cmpf .oeq a (broadcast S256x592 (Scalar.ofBits (F := Ideal) .f32 0#32)) y = Ideal.cmp .oeq (a y) (Ideal.ofBits .f32 0#32) := rfl
  have h1 : (broadcast S256x592 0#32 : IVec S256x592 32) y = 0#32 := rfl
  have h2 : fptosi 32 (minimumf (broadcast S256x592 (Scalar.sitofp (F := Ideal) .f32 hi)) (maximumf (broadcast S256x592 (Scalar.sitofp (F := Ideal) .f32 lo)) v)) y
      = Ideal.fptosi 32 (min ((hi.toInt : ℝ) : EReal) (max ((lo.toInt : ℝ) : EReal) (v y))) := rfl
  rw [h0, h1, h2]

/-- The reference's exponents of the groups. -/
abbrev expos : IVec S256x592 32 := k0_pay1 (F := Ideal) (maxes x0 x1 x2 x3 x4 x5)
  (k0_pay9 (F := Ideal) (k0_pay4 (F := Ideal) x0 x1) (k0_pay5 (F := Ideal) x3) (k0_pay6 (F := Ideal) x2) x4 x5) 4294967170#32 126#32

theorem expos_apply (r : Fin 256) (g : Fin 592) :
    expos x0 x1 x2 x3 x4 x5 (ValueIdx.ix2 r g) = refExpo (grpMax fun j => hidVal x0 x1 x2 x3 x4 x5 r ⟨32 * g.val + j.val, by omega⟩) := by
  rw [← maxes_apply, expos, pay1_eq, pay9_eq]
  rfl

/-- The codes, on whole vectors. -/
theorem pay2_eq (h : FVec Ideal S256x592x32 .f32) (a v : FVec Ideal S256x592 .f32) : k0_pay2 (F := Ideal) h a v 4294967170#32 126#32
    = truncf .fp8e4m3 (shapeCast S256x18944 (minimumf (broadcast S256x592x32 (Scalar.ofBits (F := Ideal) .f32 0x43E00000#32))
      (maximumf (broadcast S256x592x32 (Scalar.ofBits (F := Ideal) .f32 0xC3E00000#32))
        (mulf h (broadcastTo S256x592x32 (shapeCast S256x592x1 (vldexp (subi (broadcast S256x592 0#32) (k0_pay1 (F := Ideal) a v 4294967170#32 126#32)))
          shapeCasts_S256x592_S256x592x1) broadcasts_S256x592x1_S256x592x32)))) shapeCasts_S256x592x32_S256x18944) bitsLt_fp8e4m3_f32 := by
  unfold k0_pay2
  rfl

/-- The codes, an element at a time. -/
theorem codes_apply (r : Fin 256) (f : Fin 18944) :
    k0_pay2 (F := Ideal) (grouped x0 x1 x2 x3 x4 x5) (maxes x0 x1 x2 x3 x4 x5)
      (k0_pay9 (F := Ideal) (k0_pay4 (F := Ideal) x0 x1) (k0_pay5 (F := Ideal) x3) (k0_pay6 (F := Ideal) x2) x4 x5) 4294967170#32 126#32 (ValueIdx.ix2 r f)
      = code (fun j => hidVal x0 x1 x2 x3 x4 x5 r (grpOf (by decide) f j)) (hidVal x0 x1 x2 x3 x4 x5 r f) := by
  have hf : (⟨32 * (f.val / 32) + f.val % 32, by omega⟩ : Fin 18944) = f := Fin.ext (by show 32 * (f.val / 32) + f.val % 32 = f.val; omega)
  have hg := grouped_apply x0 x1 x2 x3 x4 x5 r ⟨f.val / 32, by omega⟩ ⟨f.val % 32, by omega⟩
  have he := expos_apply x0 x1 x2 x3 x4 x5 r ⟨f.val / 32, by omega⟩
  dsimp only at hg he
  rw [hf] at hg
  rw [pay2_eq]
  rw [show ∀ (z : FVec Ideal S256x18944 .f32) (h) (i), truncf (F := Ideal) .fp8e4m3 z h i = z i from fun _ _ _ => rfl]
  rw [shapeCast_apply _ _ _ (ValueIdx.ix3 r (⟨f.val / 32, by omega⟩ : Fin 592) (⟨f.val % 32, by omega⟩ : Fin 32)) (by
    rw [Shape.rowMajor_val_two, Shape.rowMajor_val_three]; show (r.val * 592 + f.val / 32) * 32 + f.val % 32 = r.val * 18944 + f.val; omega)]
  unfold code grpOf
  rw [← hg, ← he]
  refine congrArg (min _) (congrArg (max _) (congrArg (HMul.hMul (α := EReal) _) ?_))
  rw [broadcastTo_apply _ _ _ (ValueIdx.ix3 r (⟨f.val / 32, by omega⟩ : Fin 592) (0 : Fin 1)) (fun b => match b with | ⟨0, _⟩ => rfl | ⟨1, _⟩ => rfl | ⟨2, _⟩ => rfl)]
  rw [shapeCast_apply _ _ _ (ValueIdx.ix2 r (⟨f.val / 32, by omega⟩ : Fin 592)) (by
    rw [Shape.rowMajor_val_two, Shape.rowMajor_val_three]; show r.val * 592 + f.val / 32 = (r.val * 592 + f.val / 32) * 1 + 0; omega)]
  rfl

/-- The scale bytes, an element at a time. -/
theorem bytes_apply (r : Fin 256) (g : Fin 592) :
    k0_pay3 (F := Ideal) (maxes x0 x1 x2 x3 x4 x5)
      (k0_pay9 (F := Ideal) (k0_pay4 (F := Ideal) x0 x1) (k0_pay5 (F := Ideal) x3) (k0_pay6 (F := Ideal) x2) x4 x5) 4294967170#32 126#32 (ValueIdx.ix2 r g)
      = sbyte fun j => hidVal x0 x1 x2 x3 x4 x5 r ⟨32 * g.val + j.val, by omega⟩ := by
  unfold sbyte
  rw [← expos_apply]
  unfold k0_pay3
  rfl

end Cert.ReferenceIdeal.Body
end
-- ==== Proof.RefValue.lean ====
/-
  What the reference's two result arrays hold at the end of the run, over the extended reals.
-/
module

public import proofs.«01_k».proof.Proof.RefBlock
public import Idealize.ShloMosaic.Lib.Pipeline.ValueKit

@[expose] public section

set_option maxRecDepth 16384

noncomputable section

namespace Cert.ReferenceIdeal.Body

open Cert.ReferenceIdeal Cert.ReferenceIdeal.Gen
open Idealize.ShloMosaic
open Idealize.ShloMosaic.TcCoe Idealize.ShloMosaic.Tactic
open Idealize.ShloMosaic.Pipeline (Dat)
open Cert.Mx

section
variable (x0 : Vec Ideal S256x3584 .fp8e4m3) (x1 : Vec Ideal S256x112 .i8) (x2 : Vec Ideal S18944x3584 .fp8e4m3)
  (x3 : Vec Ideal S18944x112 .i8) (x4 : Vec Ideal S18944x3584 .fp8e4m3) (x5 : Vec Ideal S18944x112 .i8)

/-- The codes of six arrays. -/
def codeAll : Vec Ideal S256x18944 .fp8e4m3 := fun y => code (fun j => hidVal x0 x1 x2 x3 x4 x5 (y 0) (grpOf (by decide) (y 1) j)) (hidVal x0 x1 x2 x3 x4 x5 (y 0) (y 1))

/-- The scale bytes of six arrays. -/
def byteAll : Vec Ideal S256x592 .i8 := fun y => sbyte fun j => hidVal x0 x1 x2 x3 x4 x5 (y 0) ⟨32 * (y 1).val + j.val, by have : (y 1).val < 592 := (y 1).isLt; have := j.isLt; omega⟩

/-- The body's first result. -/
theorem out6_eq : out0_6 x0 x1 x2 x3 x4 x5 = codeAll x0 x1 x2 x3 x4 x5 := by
  funext y
  obtain ⟨r, f, rfl⟩ : ∃ (r : Fin 256) (f : Fin 18944), y = ValueIdx.ix2 r f := ⟨y 0, y 1, by funext b; match b with | ⟨0, _⟩ => rfl | ⟨1, _⟩ => rfl⟩
  refine Eq.trans ?_ (codes_apply x0 x1 x2 x3 x4 x5 r f)
  unfold_out out0_6
  rw [View.canon_unit_zero (by decide)]
  rw [View.ld_unit_zero (by decide), View.ld_unit_zero (by decide), View.ld_unit_zero (by decide), View.ld_unit_zero (by decide), View.ld_unit_zero (by decide), View.ld_unit_zero (by decide)]

/-- The body's second result. -/
theorem out7_eq : out0_7 x0 x1 x2 x3 x4 x5 = byteAll x0 x1 x2 x3 x4 x5 := by
  funext y
  obtain ⟨r, g, rfl⟩ : ∃ (r : Fin 256) (g : Fin 592), y = ValueIdx.ix2 r g := ⟨y 0, y 1, by funext b; match b with | ⟨0, _⟩ => rfl | ⟨1, _⟩ => rfl⟩
  refine Eq.trans ?_ (bytes_apply x0 x1 x2 x3 x4 x5 r g)
  unfold_out out0_7
  rw [View.canon_unit_zero (by decide)]
  rw [View.ld_unit_zero (by decide), View.ld_unit_zero (by decide), View.ld_unit_zero (by decide), View.ld_unit_zero (by decide), View.ld_unit_zero (by decide), View.ld_unit_zero (by decide)]
end

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk0 (c : Dev nD) (t : Fin cfg0.N) : iblk m c 0 t = V m c main_v0 := by blk_ext! [iblk, idx t]
theorem blk1 (c : Dev nD) (t : Fin cfg0.N) : iblk m c 1 t = V m c main_v1 := by blk_ext! [iblk, idx t]
theorem blk2 (c : Dev nD) (t : Fin cfg0.N) : iblk m c 2 t = m ((c : Thread nD τ).loc main_arg2) := by blk_ext! [iblk, V, idx t]
theorem blk3 (c : Dev nD) (t : Fin cfg0.N) : iblk m c 3 t = m ((c : Thread nD τ).loc main_arg3) := by blk_ext! [iblk, V, idx t]
theorem blk4 (c : Dev nD) (t : Fin cfg0.N) : iblk m c 4 t = m ((c : Thread nD τ).loc main_arg4) := by blk_ext! [iblk, V, idx t]
theorem blk5 (c : Dev nD) (t : Fin cfg0.N) : iblk m c 5 t = m ((c : Thread nD τ).loc main_arg5) := by blk_ext! [iblk, V, idx t]

/-- The first result array at the end. -/
theorem final6 (c : Dev nD) : (dats m 0 c).arrAt 6 (cfgs 0).N = codeAll (V m c main_v0) (V m c main_v1) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, blk0, blk1, blk2, blk3, blk4, blk5, out6_eq]
  refine congrArg _ ?_
  blk_ext [idx t]

/-- The second result array at the end. -/
theorem final7 (c : Dev nD) : (dats m 0 c).arrAt 7 (cfgs 0).N = byteAll (V m c main_v0) (V m c main_v1) (m ((c : Thread nD τ).loc main_arg2))
    (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, blk0, blk1, blk2, blk3, blk4, blk5, out7_eq]
  refine congrArg _ ?_
  blk_ext [idx t]

/-- x and its scales as the region finds them: the arguments reshaped. -/
theorem entry0 (c : Dev nD) : V m c main_v0 = shapeCast S256x3584 (m ((c : Thread nD τ).loc main_arg0)) shapeCasts_S1x256x3584_S256x3584 := by
  entry_read; try rfl
theorem entry1 (c : Dev nD) : V m c main_v1 = shapeCast S256x112 (m ((c : Thread nD τ).loc main_arg1)) shapeCasts_S1x256x112_S256x112 := by
  entry_read; try rfl

end Cert.ReferenceIdeal.Body
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunKernel
public import proofs.«01_k».proof.Proof.RunKernelIdeal
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference's codes and scale bytes are the kernel's, of arguments that agree. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 6 (Cert.ReferenceIdeal.cfgs 0).N = (Cert.KernelIdeal.Body.dats m 0 c).arrAt 6 (Cert.KernelIdeal.cfgs 0).N
    ∧ (Cert.ReferenceIdeal.Gen.dats m' 0 c).arrAt 7 (Cert.ReferenceIdeal.cfgs 0).N = (Cert.KernelIdeal.Body.dats m 0 c).arrAt 7 (Cert.KernelIdeal.cfgs 0).N := by
  constructor
  · rw [Cert.ReferenceIdeal.Body.final6, Cert.KernelIdeal.Body.final6, Cert.ReferenceIdeal.Body.entry0, Cert.ReferenceIdeal.Body.entry1, h0, h1, h2, h3, h4, h5]
    unfold Cert.KernelIdeal.Body.codeAll Cert.KernelIdeal.Body.hidAll Cert.KernelIdeal.Body.arr0 Cert.KernelIdeal.Body.arr1
    rw [Cert.KernelIdeal.Body.entry0, Cert.KernelIdeal.Body.entry1]
    rfl
  · rw [Cert.ReferenceIdeal.Body.final7, Cert.KernelIdeal.Body.final7, Cert.ReferenceIdeal.Body.entry0, Cert.ReferenceIdeal.Body.entry1, h0, h1, h2, h3, h4, h5]
    unfold Cert.KernelIdeal.Body.byteAll Cert.KernelIdeal.Body.hidAll Cert.KernelIdeal.Body.arr0 Cert.KernelIdeal.Body.arr1
    rw [Cert.KernelIdeal.Body.entry0, Cert.KernelIdeal.Body.entry1]
    rfl

/-- Over the extended reals the kernel's two results are the reference's. -/
theorem algebraic : Cert.algebraic_KernelIdeal_ReferenceIdeal (hKernelIdeal := Cert.KernelIdeal.Gen.facts) (hReferenceIdeal := Cert.ReferenceIdeal.Gen.facts) := by
  letI := Cert.KernelIdeal.Gen.facts
  letI := Cert.ReferenceIdeal.Gen.facts
  pair_intro
  · run_from Cert.KernelIdeal.Body.run_main m g
  · run_from Cert.ReferenceIdeal.Gen.run_main m' g'
    · obtain ⟨h0, h1, h2, h3, h4, h5⟩ := hagree c
      exact (values m m' c h0 h1 h2 h3 h4 h5).1
    · obtain ⟨h0, h1, h2, h3, h4, h5⟩ := hagree c
      exact (values m m' c h0 h1 h2 h3 h4 h5).2

theorem claim : Cert.Claim := ⟨Cert.Kernel.Gen.facts, Cert.KernelIdeal.Gen.facts, Cert.ReferenceIdeal.Gen.facts, by
  exact ⟨fun m ρ _ => Cert.Kernel.Body.frame m ρ, fun m ρ _ => Cert.KernelIdeal.Body.frame m ρ,
    fun m ρ _ => Cert.ReferenceIdeal.Gen.frame m ρ, trivial, algebraic⟩⟩

end Cert.Proof

end
